-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x192x224x224 : Shape := ⟨4, ![8, 192, 224, 224]⟩
abbrev S224x96 : Shape := ⟨2, ![224, 96]⟩
abbrev S96x224 : Shape := ⟨2, ![96, 224]⟩
abbrev S192x224 : Shape := ⟨2, ![192, 224]⟩
abbrev S344064x224 : Shape := ⟨2, ![344064, 224]⟩
abbrev S48x224 : Shape := ⟨2, ![48, 224]⟩
abbrev S112x224 : Shape := ⟨2, ![112, 224]⟩
abbrev S_ : Shape := ⟨0, ![]⟩
abbrev S1x16 : Shape := ⟨2, ![1, 16]⟩
abbrev S16 : Shape := ⟨1, ![16]⟩
abbrev S1 : Shape := ⟨1, ![1]⟩

abbrev nBuf : Table → Nat
  | .hbm => 9
  | .local .scVector .vmem => 4
  | _ => 0

abbrev bufTy : (tb : Table) → Fin (nBuf tb) → BufTy
  | .hbm, ⟨0, _⟩ => ⟨S8x192x224x224, .f32⟩
  | .hbm, ⟨1, _⟩ => ⟨S224x96, .f32⟩
  | .hbm, ⟨2, _⟩ => ⟨S224x96, .f32⟩
  | .hbm, ⟨3, _⟩ => ⟨S96x224, .f32⟩
  | .hbm, ⟨4, _⟩ => ⟨S96x224, .f32⟩
  | .hbm, ⟨5, _⟩ => ⟨S192x224, .f32⟩
  | .hbm, ⟨6, _⟩ => ⟨S344064x224, .f32⟩
  | .hbm, ⟨7, _⟩ => ⟨S344064x224, .f32⟩
  | .hbm, ⟨8, _⟩ => ⟨S8x192x224x224, .f32⟩
  | .local .scVector .vmem, ⟨0, _⟩ => ⟨S48x224, .f32⟩
  | .local .scVector .vmem, ⟨1, _⟩ => ⟨S112x224, .f32⟩
  | .local .scVector .vmem, ⟨2, _⟩ => ⟨S112x224, .f32⟩
  | .local .scVector .vmem, ⟨3, _⟩ => ⟨S112x224, .f32⟩
  | _, _ => ⟨S8x192x224x224, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v3_scv : Ref sig .scVector := ⟨.hbm, 6, rfl⟩
abbrev main_v2_scv : Ref sig .scVector := ⟨.hbm, 5, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c192_i32 : BitVec 32 := 192#32
  let v3 : BitVec 32 := Scalar.remsi v2 c192_i32
  let c0_i32_44_r0 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c224_i32 : BitVec 32 := 224#32
  let v4 : BitVec 32 := Scalar.muli v2 c224_i32
  let v5 : BitVec 32 := Scalar.addi v4 c0_i32
  let c0_i32_0 : BitVec 32 := 0#32
  ![v5.toNat, 0]
def k0_off2_at (r : Fin 6) : BitVec 32 :=
  if r.val < 3 then
    if r.val < 1 then
      0#32
    else
      if r.val < 2 then
        112#32
      else
        224#32
  else
    if r.val < 4 then
      10528#32
    else
      if r.val < 5 then
        10416#32
      else
        10640#32
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c192_i32 : BitVec 32 := 192#32
  let v3 : BitVec 32 := Scalar.remsi v2 c192_i32
  let c0_i32_7 : BitVec 32 := 0#32
  let v14 : BitVec 32 := Scalar.addi v3 c0_i32_7
  let c96_i32 : BitVec 32 := 96#32
  let v15 : BitVec 1 := Scalar.cmpi .slt v14 c96_i32
  let v16 : BitVec 32 := Scalar.extui v15
  let c0_i32_9 : BitVec 32 := 0#32
  let v17 : BitVec 1 := Scalar.cmpi .ne v16 c0_i32_9
  v17

@[reducible] def k0_t1_loop : Scf.Loop 32 :=
  let c0_i32_44 : BitVec 32 := 0#32
  let c7_i32 : BitVec 32 := 7#32
  let v57 : BitVec 32 := Scalar.addi c0_i32_44 c7_i32
  let c1_i32_45 : BitVec 32 := 1#32
  ⟨c0_i32_44, v57, c1_i32_45⟩
def k0_off3 (k0_t1 : Fin k0_t1_loop.trips) : Fin 2 → Nat :=
  let c0_i32_51 : BitVec 32 := 0#32
  let v62 : Index := Scalar.indexCast c0_i32_51
  let c0_i32_50 : BitVec 32 := 0#32
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v61 : BitVec 32 := Scalar.addi c0_i32_50 v60
  let v63 : Index := Scalar.indexCast v61
  ![0, v63.toNat]
def k0_off4 (k0_t1 : Fin k0_t1_loop.trips) (c0_i32_52 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v69 : BitVec 32 := Scalar.addi v60 c0_i32_52
  let v70 : Index := Scalar.indexCast v69
  let c0 : Index := 0#32
  ![v70.toNat, 0]
def k0_off5 (k0_t1 : Fin k0_t1_loop.trips) (c0_i32_55 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v79 : BitVec 32 := Scalar.addi v60 c0_i32_55
  let v80 : Index := Scalar.indexCast v79
  let c16 : Index := 16#32
  ![v80.toNat, 16]
def k0_off6 (k0_t1 : Fin k0_t1_loop.trips) (c0_i32_58 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v89 : BitVec 32 := Scalar.addi v60 c0_i32_58
  let v90 : Index := Scalar.indexCast v89
  let c32 : Index := 32#32
  ![v90.toNat, 32]
def k0_off7 (k0_t1 : Fin k0_t1_loop.trips) (c0_i32_61 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v99 : BitVec 32 := Scalar.addi v60 c0_i32_61
  let v100 : Index := Scalar.indexCast v99
  let c48 : Index := 48#32
  ![v100.toNat, 48]
def k0_off8 (k0_t1 : Fin k0_t1_loop.trips) (c0_i32_64 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v109 : BitVec 32 := Scalar.addi v60 c0_i32_64
  let v110 : Index := Scalar.indexCast v109
  let c64 : Index := 64#32
  ![v110.toNat, 64]
def k0_off9 (k0_t1 : Fin k0_t1_loop.trips) (c0_i32_67 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v119 : BitVec 32 := Scalar.addi v60 c0_i32_67
  let v120 : Index := Scalar.indexCast v119
  let c80 : Index := 80#32
  ![v120.toNat, 80]
def k0_off10 (k0_t1 : Fin k0_t1_loop.trips) (c0_i32_70 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v129 : BitVec 32 := Scalar.addi v60 c0_i32_70
  let v130 : Index := Scalar.indexCast v129
  let c96 : Index := 96#32
  ![v130.toNat, 96]
def k0_off11 (k0_t1 : Fin k0_t1_loop.trips) (c0_i32_73 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v139 : BitVec 32 := Scalar.addi v60 c0_i32_73
  let v140 : Index := Scalar.indexCast v139
  let c112 : Index := 112#32
  ![v140.toNat, 112]
def k0_off12 (k0_t1 : Fin k0_t1_loop.trips) (c0_i32_76 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v149 : BitVec 32 := Scalar.addi v60 c0_i32_76
  let v150 : Index := Scalar.indexCast v149
  let c128 : Index := 128#32
  ![v150.toNat, 128]
def k0_off13 (k0_t1 : Fin k0_t1_loop.trips) (c0_i32_79 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v159 : BitVec 32 := Scalar.addi v60 c0_i32_79
  let v160 : Index := Scalar.indexCast v159
  let c144 : Index := 144#32
  ![v160.toNat, 144]
def k0_off14 (k0_t1 : Fin k0_t1_loop.trips) (c0_i32_82 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v169 : BitVec 32 := Scalar.addi v60 c0_i32_82
  let v170 : Index := Scalar.indexCast v169
  let c160 : Index := 160#32
  ![v170.toNat, 160]
def k0_off15 (k0_t1 : Fin k0_t1_loop.trips) (c0_i32_85 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v179 : BitVec 32 := Scalar.addi v60 c0_i32_85
  let v180 : Index := Scalar.indexCast v179
  let c176 : Index := 176#32
  ![v180.toNat, 176]
def k0_off16 (k0_t1 : Fin k0_t1_loop.trips) (c0_i32_88 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v189 : BitVec 32 := Scalar.addi v60 c0_i32_88
  let v190 : Index := Scalar.indexCast v189
  let c192 : Index := 192#32
  ![v190.toNat, 192]
def k0_off17 (k0_t1 : Fin k0_t1_loop.trips) (c0_i32_91 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t1
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v199 : BitVec 32 := Scalar.addi v60 c0_i32_91
  let v200 : Index := Scalar.indexCast v199
  let c208 : Index := 208#32
  ![v200.toNat, 208]
@[reducible] def k0_t2_loop : Scf.Loop 32 :=
  let c0_i32_58 : BitVec 32 := 0#32
  let c112_i32_59 : BitVec 32 := 112#32
  let v99 : BitVec 32 := Scalar.addi c0_i32_58 c112_i32_59
  let c1_i32_60 : BitVec 32 := 1#32
  ⟨c0_i32_58, v99, c1_i32_60⟩
def k0_off18 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v102 : Index := Scalar.indexCast v101
  let c0_65 : Index := 0#32
  ![v102.toNat, 0]
def k0_off19 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v110 : Index := Scalar.indexCast v101
  let c16_67 : Index := 16#32
  ![v110.toNat, 16]
def k0_off20 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v118 : Index := Scalar.indexCast v101
  let c32_69 : Index := 32#32
  ![v118.toNat, 32]
def k0_off21 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v126 : Index := Scalar.indexCast v101
  let c48_71 : Index := 48#32
  ![v126.toNat, 48]
def k0_off22 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v134 : Index := Scalar.indexCast v101
  let c64_73 : Index := 64#32
  ![v134.toNat, 64]
def k0_off23 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v142 : Index := Scalar.indexCast v101
  let c80_75 : Index := 80#32
  ![v142.toNat, 80]
def k0_off24 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v150 : Index := Scalar.indexCast v101
  let c96_77 : Index := 96#32
  ![v150.toNat, 96]
def k0_off25 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v158 : Index := Scalar.indexCast v101
  let c112_79 : Index := 112#32
  ![v158.toNat, 112]
def k0_off26 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v166 : Index := Scalar.indexCast v101
  let c128_81 : Index := 128#32
  ![v166.toNat, 128]
def k0_off27 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v174 : Index := Scalar.indexCast v101
  let c144_83 : Index := 144#32
  ![v174.toNat, 144]
def k0_off28 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v182 : Index := Scalar.indexCast v101
  let c160_85 : Index := 160#32
  ![v182.toNat, 160]
def k0_off29 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v190 : Index := Scalar.indexCast v101
  let c176_87 : Index := 176#32
  ![v190.toNat, 176]
def k0_off30 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v198 : Index := Scalar.indexCast v101
  let c192_89 : Index := 192#32
  ![v198.toNat, 192]
def k0_off31 (k0_t2 : Fin k0_t2_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t2
  let c1_i32_63 : BitVec 32 := 1#32
  let v100 : BitVec 32 := Scalar.muli arg15 c1_i32_63
  let v101 : BitVec 32 := Scalar.addi c0_i32_64 v100
  let v206 : Index := Scalar.indexCast v101
  let c208_91 : Index := 208#32
  ![v206.toNat, 208]
@[reducible] def k0_t3_loop : Scf.Loop 32 :=
  let c0_i32_17 : BitVec 32 := 0#32
  let c31_i32 : BitVec 32 := 31#32
  let v25 : BitVec 32 := Scalar.addi c0_i32_17 c31_i32
  let c1_i32 : BitVec 32 := 1#32
  ⟨c0_i32_17, v25, c1_i32⟩
def k0_off32 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c224_i32 : BitVec 32 := 224#32
  let v4 : BitVec 32 := Scalar.muli v2 c224_i32
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c112_i32_45 : BitVec 32 := 112#32
  let v59 : BitVec 32 := Scalar.muli v58 c112_i32_45
  let v60 : BitVec 32 := Scalar.addi v4 v59
  let c0_i32_46 : BitVec 32 := 0#32
  ![v60.toNat, 0]
def k0_cond2 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c192_i32 : BitVec 32 := 192#32
  let v3 : BitVec 32 := Scalar.remsi v2 c192_i32
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v82 : BitVec 32 := Scalar.addi v3 v79
  let c96_i32_56 : BitVec 32 := 96#32
  let v83 : BitVec 1 := Scalar.cmpi .slt v82 c96_i32_56
  let v84 : BitVec 32 := Scalar.extui v83
  let c0_i32_58 : BitVec 32 := 0#32
  let v85 : BitVec 1 := Scalar.cmpi .ne v84 c0_i32_58
  v85

@[reducible] def k0_t4_loop : Scf.Loop 32 :=
  let c0_i32_122 : BitVec 32 := 0#32
  let c7_i32 : BitVec 32 := 7#32
  let v187 : BitVec 32 := Scalar.addi c0_i32_122 c7_i32
  let c1_i32_123 : BitVec 32 := 1#32
  ⟨c0_i32_122, v187, c1_i32_123⟩
def k0_off33 (k0_t3 : Fin k0_t3_loop.trips) (k0_t4 : Fin k0_t4_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v193 : Index := Scalar.indexCast v79
  let c2_i32_55 : BitVec 32 := 2#32
  let v80 : BitVec 32 := Scalar.muli c2_i32_55 v79
  let v81 : BitVec 32 := Scalar.subi v58 v80
  let c112_i32_128 : BitVec 32 := 112#32
  let v191 : BitVec 32 := Scalar.muli v81 c112_i32_128
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v192 : BitVec 32 := Scalar.addi v191 v190
  let v194 : Index := Scalar.indexCast v192
  ![v193.toNat, v194.toNat]
def k0_off34 (k0_t4 : Fin k0_t4_loop.trips) (c0_i32_129 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v200 : BitVec 32 := Scalar.addi v190 c0_i32_129
  let v201 : Index := Scalar.indexCast v200
  let c0 : Index := 0#32
  ![v201.toNat, 0]
def k0_off35 (k0_t4 : Fin k0_t4_loop.trips) (c0_i32_132 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v210 : BitVec 32 := Scalar.addi v190 c0_i32_132
  let v211 : Index := Scalar.indexCast v210
  let c16 : Index := 16#32
  ![v211.toNat, 16]
def k0_off36 (k0_t4 : Fin k0_t4_loop.trips) (c0_i32_135 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v220 : BitVec 32 := Scalar.addi v190 c0_i32_135
  let v221 : Index := Scalar.indexCast v220
  let c32 : Index := 32#32
  ![v221.toNat, 32]
def k0_off37 (k0_t4 : Fin k0_t4_loop.trips) (c0_i32_138 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v230 : BitVec 32 := Scalar.addi v190 c0_i32_138
  let v231 : Index := Scalar.indexCast v230
  let c48 : Index := 48#32
  ![v231.toNat, 48]
def k0_off38 (k0_t4 : Fin k0_t4_loop.trips) (c0_i32_141 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v240 : BitVec 32 := Scalar.addi v190 c0_i32_141
  let v241 : Index := Scalar.indexCast v240
  let c64 : Index := 64#32
  ![v241.toNat, 64]
def k0_off39 (k0_t4 : Fin k0_t4_loop.trips) (c0_i32_144 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v250 : BitVec 32 := Scalar.addi v190 c0_i32_144
  let v251 : Index := Scalar.indexCast v250
  let c80 : Index := 80#32
  ![v251.toNat, 80]
def k0_off40 (k0_t4 : Fin k0_t4_loop.trips) (c0_i32_147 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v260 : BitVec 32 := Scalar.addi v190 c0_i32_147
  let v261 : Index := Scalar.indexCast v260
  let c96 : Index := 96#32
  ![v261.toNat, 96]
def k0_off41 (k0_t4 : Fin k0_t4_loop.trips) (c0_i32_150 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v270 : BitVec 32 := Scalar.addi v190 c0_i32_150
  let v271 : Index := Scalar.indexCast v270
  let c112 : Index := 112#32
  ![v271.toNat, 112]
def k0_off42 (k0_t4 : Fin k0_t4_loop.trips) (c0_i32_153 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v280 : BitVec 32 := Scalar.addi v190 c0_i32_153
  let v281 : Index := Scalar.indexCast v280
  let c128 : Index := 128#32
  ![v281.toNat, 128]
def k0_off43 (k0_t4 : Fin k0_t4_loop.trips) (c0_i32_156 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v290 : BitVec 32 := Scalar.addi v190 c0_i32_156
  let v291 : Index := Scalar.indexCast v290
  let c144 : Index := 144#32
  ![v291.toNat, 144]
def k0_off44 (k0_t4 : Fin k0_t4_loop.trips) (c0_i32_159 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v300 : BitVec 32 := Scalar.addi v190 c0_i32_159
  let v301 : Index := Scalar.indexCast v300
  let c160 : Index := 160#32
  ![v301.toNat, 160]
def k0_off45 (k0_t4 : Fin k0_t4_loop.trips) (c0_i32_162 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v310 : BitVec 32 := Scalar.addi v190 c0_i32_162
  let v311 : Index := Scalar.indexCast v310
  let c176 : Index := 176#32
  ![v311.toNat, 176]
def k0_off46 (k0_t4 : Fin k0_t4_loop.trips) (c0_i32_165 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v320 : BitVec 32 := Scalar.addi v190 c0_i32_165
  let v321 : Index := Scalar.indexCast v320
  let c192 : Index := 192#32
  ![v321.toNat, 192]
def k0_off47 (k0_t4 : Fin k0_t4_loop.trips) (c0_i32_168 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t4
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v330 : BitVec 32 := Scalar.addi v190 c0_i32_168
  let v331 : Index := Scalar.indexCast v330
  let c208 : Index := 208#32
  ![v331.toNat, 208]
def k0_off48 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v187 : Index := Scalar.indexCast v79
  let c0 : Index := 0#32
  ![v187.toNat, 0]
def k0_off49 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v190 : Index := Scalar.indexCast v79
  let c16 : Index := 16#32
  ![v190.toNat, 16]
def k0_off50 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v193 : Index := Scalar.indexCast v79
  let c32 : Index := 32#32
  ![v193.toNat, 32]
def k0_off51 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v196 : Index := Scalar.indexCast v79
  let c48 : Index := 48#32
  ![v196.toNat, 48]
def k0_off52 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v199 : Index := Scalar.indexCast v79
  let c64 : Index := 64#32
  ![v199.toNat, 64]
def k0_off53 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v202 : Index := Scalar.indexCast v79
  let c80 : Index := 80#32
  ![v202.toNat, 80]
def k0_off54 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v205 : Index := Scalar.indexCast v79
  let c96 : Index := 96#32
  ![v205.toNat, 96]
def k0_off55 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v208 : Index := Scalar.indexCast v79
  let c112 : Index := 112#32
  ![v208.toNat, 112]
def k0_off56 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v211 : Index := Scalar.indexCast v79
  let c128 : Index := 128#32
  ![v211.toNat, 128]
def k0_off57 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v214 : Index := Scalar.indexCast v79
  let c144 : Index := 144#32
  ![v214.toNat, 144]
def k0_off58 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v217 : Index := Scalar.indexCast v79
  let c160 : Index := 160#32
  ![v217.toNat, 160]
def k0_off59 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v220 : Index := Scalar.indexCast v79
  let c176 : Index := 176#32
  ![v220.toNat, 176]
def k0_off60 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v223 : Index := Scalar.indexCast v79
  let c192 : Index := 192#32
  ![v223.toNat, 192]
def k0_off61 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c0_i32_49 : BitVec 32 := 0#32
  let v64 : BitVec 1 := Scalar.cmpi .sgt v58 c0_i32_49
  let v65 : BitVec 32 := Scalar.extui v64
  let c0_i32_50 : BitVec 32 := 0#32
  let v66 : BitVec 1 := Scalar.cmpi .slt v58 c0_i32_50
  let v67 : BitVec 32 := Scalar.extui v66
  let v68 : BitVec 32 := Scalar.subi v65 v67
  let c2_i32_48 : BitVec 32 := 2#32
  let c0_i32_51 : BitVec 32 := 0#32
  let v69 : BitVec 1 := Scalar.cmpi .sgt c2_i32_48 c0_i32_51
  let v70 : BitVec 32 := Scalar.extui v69
  let c0_i32_52 : BitVec 32 := 0#32
  let v71 : BitVec 1 := Scalar.cmpi .slt c2_i32_48 c0_i32_52
  let v72 : BitVec 32 := Scalar.extui v71
  let v73 : BitVec 32 := Scalar.subi v70 v72
  let v74 : BitVec 1 := Scalar.cmpi .ne v68 v73
  let v75 : BitVec 32 := Scalar.remsi v58 c2_i32_48
  let c0_i32_53 : BitVec 32 := 0#32
  let v76 : BitVec 1 := Scalar.cmpi .ne v75 c0_i32_53
  let v77 : BitVec 1 := Scalar.andi v74 v76
  let v63 : BitVec 32 := Scalar.divsi v58 c2_i32_48
  let c1_i32_54 : BitVec 32 := 1#32
  let v78 : BitVec 32 := Scalar.subi v63 c1_i32_54
  let v79 : BitVec 32 := Scalar.select v77 v78 v63
  let v226 : Index := Scalar.indexCast v79
  let c208 : Index := 208#32
  ![v226.toNat, 208]
@[reducible] def k0_t5_loop : Scf.Loop 32 :=
  let c0_i32_122 : BitVec 32 := 0#32
  let c112_i32_123 : BitVec 32 := 112#32
  let v229 : BitVec 32 := Scalar.addi c0_i32_122 c112_i32_123
  let c1_i32_124 : BitVec 32 := 1#32
  ⟨c0_i32_122, v229, c1_i32_124⟩
def k0_off62 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v232 : Index := Scalar.indexCast v231
  let c0_129 : Index := 0#32
  ![v232.toNat, 0]
def k0_off63 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v240 : Index := Scalar.indexCast v231
  let c16_131 : Index := 16#32
  ![v240.toNat, 16]
def k0_off64 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v248 : Index := Scalar.indexCast v231
  let c32_133 : Index := 32#32
  ![v248.toNat, 32]
def k0_off65 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v256 : Index := Scalar.indexCast v231
  let c48_135 : Index := 48#32
  ![v256.toNat, 48]
def k0_off66 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v264 : Index := Scalar.indexCast v231
  let c64_137 : Index := 64#32
  ![v264.toNat, 64]
def k0_off67 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v272 : Index := Scalar.indexCast v231
  let c80_139 : Index := 80#32
  ![v272.toNat, 80]
def k0_off68 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v280 : Index := Scalar.indexCast v231
  let c96_141 : Index := 96#32
  ![v280.toNat, 96]
def k0_off69 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v288 : Index := Scalar.indexCast v231
  let c112_143 : Index := 112#32
  ![v288.toNat, 112]
def k0_off70 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v296 : Index := Scalar.indexCast v231
  let c128_145 : Index := 128#32
  ![v296.toNat, 128]
def k0_off71 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v304 : Index := Scalar.indexCast v231
  let c144_147 : Index := 144#32
  ![v304.toNat, 144]
def k0_off72 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v312 : Index := Scalar.indexCast v231
  let c160_149 : Index := 160#32
  ![v312.toNat, 160]
def k0_off73 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v320 : Index := Scalar.indexCast v231
  let c176_151 : Index := 176#32
  ![v320.toNat, 176]
def k0_off74 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v328 : Index := Scalar.indexCast v231
  let c192_153 : Index := 192#32
  ![v328.toNat, 192]
def k0_off75 (k0_t5 : Fin k0_t5_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t5
  let c1_i32_127 : BitVec 32 := 1#32
  let v230 : BitVec 32 := Scalar.muli arg16 c1_i32_127
  let v231 : BitVec 32 := Scalar.addi c0_i32_128 v230
  let v336 : Index := Scalar.indexCast v231
  let c208_155 : Index := 208#32
  ![v336.toNat, 208]
def k0_off76 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c224_i32 : BitVec 32 := 224#32
  let v4 : BitVec 32 := Scalar.muli v2 c224_i32
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_62 : BitVec 32 := 1#32
  let v91 : BitVec 32 := Scalar.subi v58 c1_i32_62
  let c112_i32_63 : BitVec 32 := 112#32
  let v92 : BitVec 32 := Scalar.muli v91 c112_i32_63
  let v93 : BitVec 32 := Scalar.addi v4 v92
  let c0_i32_64 : BitVec 32 := 0#32
  ![v93.toNat, 0]
def k0_off77 (i : grid0.Coords) (k0_t3 : Fin k0_t3_loop.trips) (c2_i32_66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c224_i32 : BitVec 32 := 224#32
  let v4 : BitVec 32 := Scalar.muli v2 c224_i32
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let v96 : BitVec 32 := Scalar.addi v58 c2_i32_66
  let c112_i32_67 : BitVec 32 := 112#32
  let v97 : BitVec 32 := Scalar.muli v96 c112_i32_67
  let v98 : BitVec 32 := Scalar.addi v4 v97
  let c0_i32_68 : BitVec 32 := 0#32
  ![v98.toNat, 0]
def k0_cond3 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c192_i32 : BitVec 32 := 192#32
  let v3 : BitVec 32 := Scalar.remsi v2 c192_i32
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v125 : BitVec 32 := Scalar.addi v3 v122
  let c96_i32_82 : BitVec 32 := 96#32
  let v126 : BitVec 1 := Scalar.cmpi .slt v125 c96_i32_82
  let v127 : BitVec 32 := Scalar.extui v126
  let c0_i32_84 : BitVec 32 := 0#32
  let v128 : BitVec 1 := Scalar.cmpi .ne v127 c0_i32_84
  v128

@[reducible] def k0_t6_loop : Scf.Loop 32 :=
  let c0_i32_122 : BitVec 32 := 0#32
  let c7_i32 : BitVec 32 := 7#32
  let v187 : BitVec 32 := Scalar.addi c0_i32_122 c7_i32
  let c1_i32_123 : BitVec 32 := 1#32
  ⟨c0_i32_122, v187, c1_i32_123⟩
def k0_off78 (k0_t3 : Fin k0_t3_loop.trips) (k0_t6 : Fin k0_t6_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v193 : Index := Scalar.indexCast v122
  let c2_i32_81 : BitVec 32 := 2#32
  let v123 : BitVec 32 := Scalar.muli c2_i32_81 v122
  let v124 : BitVec 32 := Scalar.subi v101 v123
  let c112_i32_128 : BitVec 32 := 112#32
  let v191 : BitVec 32 := Scalar.muli v124 c112_i32_128
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v192 : BitVec 32 := Scalar.addi v191 v190
  let v194 : Index := Scalar.indexCast v192
  ![v193.toNat, v194.toNat]
def k0_off79 (k0_t6 : Fin k0_t6_loop.trips) (c0_i32_129 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v200 : BitVec 32 := Scalar.addi v190 c0_i32_129
  let v201 : Index := Scalar.indexCast v200
  let c0 : Index := 0#32
  ![v201.toNat, 0]
def k0_off80 (k0_t6 : Fin k0_t6_loop.trips) (c0_i32_132 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v210 : BitVec 32 := Scalar.addi v190 c0_i32_132
  let v211 : Index := Scalar.indexCast v210
  let c16 : Index := 16#32
  ![v211.toNat, 16]
def k0_off81 (k0_t6 : Fin k0_t6_loop.trips) (c0_i32_135 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v220 : BitVec 32 := Scalar.addi v190 c0_i32_135
  let v221 : Index := Scalar.indexCast v220
  let c32 : Index := 32#32
  ![v221.toNat, 32]
def k0_off82 (k0_t6 : Fin k0_t6_loop.trips) (c0_i32_138 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v230 : BitVec 32 := Scalar.addi v190 c0_i32_138
  let v231 : Index := Scalar.indexCast v230
  let c48 : Index := 48#32
  ![v231.toNat, 48]
def k0_off83 (k0_t6 : Fin k0_t6_loop.trips) (c0_i32_141 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v240 : BitVec 32 := Scalar.addi v190 c0_i32_141
  let v241 : Index := Scalar.indexCast v240
  let c64 : Index := 64#32
  ![v241.toNat, 64]
def k0_off84 (k0_t6 : Fin k0_t6_loop.trips) (c0_i32_144 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v250 : BitVec 32 := Scalar.addi v190 c0_i32_144
  let v251 : Index := Scalar.indexCast v250
  let c80 : Index := 80#32
  ![v251.toNat, 80]
def k0_off85 (k0_t6 : Fin k0_t6_loop.trips) (c0_i32_147 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v260 : BitVec 32 := Scalar.addi v190 c0_i32_147
  let v261 : Index := Scalar.indexCast v260
  let c96 : Index := 96#32
  ![v261.toNat, 96]
def k0_off86 (k0_t6 : Fin k0_t6_loop.trips) (c0_i32_150 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v270 : BitVec 32 := Scalar.addi v190 c0_i32_150
  let v271 : Index := Scalar.indexCast v270
  let c112 : Index := 112#32
  ![v271.toNat, 112]
def k0_off87 (k0_t6 : Fin k0_t6_loop.trips) (c0_i32_153 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v280 : BitVec 32 := Scalar.addi v190 c0_i32_153
  let v281 : Index := Scalar.indexCast v280
  let c128 : Index := 128#32
  ![v281.toNat, 128]
def k0_off88 (k0_t6 : Fin k0_t6_loop.trips) (c0_i32_156 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v290 : BitVec 32 := Scalar.addi v190 c0_i32_156
  let v291 : Index := Scalar.indexCast v290
  let c144 : Index := 144#32
  ![v291.toNat, 144]
def k0_off89 (k0_t6 : Fin k0_t6_loop.trips) (c0_i32_159 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v300 : BitVec 32 := Scalar.addi v190 c0_i32_159
  let v301 : Index := Scalar.indexCast v300
  let c160 : Index := 160#32
  ![v301.toNat, 160]
def k0_off90 (k0_t6 : Fin k0_t6_loop.trips) (c0_i32_162 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v310 : BitVec 32 := Scalar.addi v190 c0_i32_162
  let v311 : Index := Scalar.indexCast v310
  let c176 : Index := 176#32
  ![v311.toNat, 176]
def k0_off91 (k0_t6 : Fin k0_t6_loop.trips) (c0_i32_165 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v320 : BitVec 32 := Scalar.addi v190 c0_i32_165
  let v321 : Index := Scalar.indexCast v320
  let c192 : Index := 192#32
  ![v321.toNat, 192]
def k0_off92 (k0_t6 : Fin k0_t6_loop.trips) (c0_i32_168 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t6
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v330 : BitVec 32 := Scalar.addi v190 c0_i32_168
  let v331 : Index := Scalar.indexCast v330
  let c208 : Index := 208#32
  ![v331.toNat, 208]
def k0_off93 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v187 : Index := Scalar.indexCast v122
  let c0 : Index := 0#32
  ![v187.toNat, 0]
def k0_off94 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v190 : Index := Scalar.indexCast v122
  let c16 : Index := 16#32
  ![v190.toNat, 16]
def k0_off95 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v193 : Index := Scalar.indexCast v122
  let c32 : Index := 32#32
  ![v193.toNat, 32]
def k0_off96 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v196 : Index := Scalar.indexCast v122
  let c48 : Index := 48#32
  ![v196.toNat, 48]
def k0_off97 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v199 : Index := Scalar.indexCast v122
  let c64 : Index := 64#32
  ![v199.toNat, 64]
def k0_off98 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v202 : Index := Scalar.indexCast v122
  let c80 : Index := 80#32
  ![v202.toNat, 80]
def k0_off99 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v205 : Index := Scalar.indexCast v122
  let c96 : Index := 96#32
  ![v205.toNat, 96]
def k0_off100 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v208 : Index := Scalar.indexCast v122
  let c112 : Index := 112#32
  ![v208.toNat, 112]
def k0_off101 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v211 : Index := Scalar.indexCast v122
  let c128 : Index := 128#32
  ![v211.toNat, 128]
def k0_off102 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v214 : Index := Scalar.indexCast v122
  let c144 : Index := 144#32
  ![v214.toNat, 144]
def k0_off103 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v217 : Index := Scalar.indexCast v122
  let c160 : Index := 160#32
  ![v217.toNat, 160]
def k0_off104 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v220 : Index := Scalar.indexCast v122
  let c176 : Index := 176#32
  ![v220.toNat, 176]
def k0_off105 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v223 : Index := Scalar.indexCast v122
  let c192 : Index := 192#32
  ![v223.toNat, 192]
def k0_off106 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c1_i32_70 : BitVec 32 := 1#32
  let v101 : BitVec 32 := Scalar.addi v58 c1_i32_70
  let c0_i32_75 : BitVec 32 := 0#32
  let v107 : BitVec 1 := Scalar.cmpi .sgt v101 c0_i32_75
  let v108 : BitVec 32 := Scalar.extui v107
  let c0_i32_76 : BitVec 32 := 0#32
  let v109 : BitVec 1 := Scalar.cmpi .slt v101 c0_i32_76
  let v110 : BitVec 32 := Scalar.extui v109
  let v111 : BitVec 32 := Scalar.subi v108 v110
  let c2_i32_74 : BitVec 32 := 2#32
  let c0_i32_77 : BitVec 32 := 0#32
  let v112 : BitVec 1 := Scalar.cmpi .sgt c2_i32_74 c0_i32_77
  let v113 : BitVec 32 := Scalar.extui v112
  let c0_i32_78 : BitVec 32 := 0#32
  let v114 : BitVec 1 := Scalar.cmpi .slt c2_i32_74 c0_i32_78
  let v115 : BitVec 32 := Scalar.extui v114
  let v116 : BitVec 32 := Scalar.subi v113 v115
  let v117 : BitVec 1 := Scalar.cmpi .ne v111 v116
  let v118 : BitVec 32 := Scalar.remsi v101 c2_i32_74
  let c0_i32_79 : BitVec 32 := 0#32
  let v119 : BitVec 1 := Scalar.cmpi .ne v118 c0_i32_79
  let v120 : BitVec 1 := Scalar.andi v117 v119
  let v106 : BitVec 32 := Scalar.divsi v101 c2_i32_74
  let c1_i32_80 : BitVec 32 := 1#32
  let v121 : BitVec 32 := Scalar.subi v106 c1_i32_80
  let v122 : BitVec 32 := Scalar.select v120 v121 v106
  let v226 : Index := Scalar.indexCast v122
  let c208 : Index := 208#32
  ![v226.toNat, 208]
@[reducible] def k0_t7_loop : Scf.Loop 32 :=
  let c0_i32_122 : BitVec 32 := 0#32
  let c112_i32_123 : BitVec 32 := 112#32
  let v229 : BitVec 32 := Scalar.addi c0_i32_122 c112_i32_123
  let c1_i32_124 : BitVec 32 := 1#32
  ⟨c0_i32_122, v229, c1_i32_124⟩
def k0_off107 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v232 : Index := Scalar.indexCast v231
  let c0_129 : Index := 0#32
  ![v232.toNat, 0]
def k0_off108 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v240 : Index := Scalar.indexCast v231
  let c16_131 : Index := 16#32
  ![v240.toNat, 16]
def k0_off109 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v248 : Index := Scalar.indexCast v231
  let c32_133 : Index := 32#32
  ![v248.toNat, 32]
def k0_off110 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v256 : Index := Scalar.indexCast v231
  let c48_135 : Index := 48#32
  ![v256.toNat, 48]
def k0_off111 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v264 : Index := Scalar.indexCast v231
  let c64_137 : Index := 64#32
  ![v264.toNat, 64]
def k0_off112 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v272 : Index := Scalar.indexCast v231
  let c80_139 : Index := 80#32
  ![v272.toNat, 80]
def k0_off113 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v280 : Index := Scalar.indexCast v231
  let c96_141 : Index := 96#32
  ![v280.toNat, 96]
def k0_off114 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v288 : Index := Scalar.indexCast v231
  let c112_143 : Index := 112#32
  ![v288.toNat, 112]
def k0_off115 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v296 : Index := Scalar.indexCast v231
  let c128_145 : Index := 128#32
  ![v296.toNat, 128]
def k0_off116 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v304 : Index := Scalar.indexCast v231
  let c144_147 : Index := 144#32
  ![v304.toNat, 144]
def k0_off117 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v312 : Index := Scalar.indexCast v231
  let c160_149 : Index := 160#32
  ![v312.toNat, 160]
def k0_off118 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v320 : Index := Scalar.indexCast v231
  let c176_151 : Index := 176#32
  ![v320.toNat, 176]
def k0_off119 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v328 : Index := Scalar.indexCast v231
  let c192_153 : Index := 192#32
  ![v328.toNat, 192]
def k0_off120 (k0_t7 : Fin k0_t7_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t7
  let c1_i32_127 : BitVec 32 := 1#32
  let v230 : BitVec 32 := Scalar.muli arg16 c1_i32_127
  let v231 : BitVec 32 := Scalar.addi c0_i32_128 v230
  let v336 : Index := Scalar.indexCast v231
  let c208_155 : Index := 208#32
  ![v336.toNat, 208]
def k0_off121 (i : grid0.Coords) (k0_t3 : Fin k0_t3_loop.trips) (c1_i32_70 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c224_i32 : BitVec 32 := 224#32
  let v4 : BitVec 32 := Scalar.muli v2 c224_i32
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let v101 : BitVec 32 := Scalar.addi v58 c1_i32_70
  let c1_i32_88 : BitVec 32 := 1#32
  let v134 : BitVec 32 := Scalar.subi v101 c1_i32_88
  let c112_i32_89 : BitVec 32 := 112#32
  let v135 : BitVec 32 := Scalar.muli v134 c112_i32_89
  let v136 : BitVec 32 := Scalar.addi v4 v135
  let c0_i32_90 : BitVec 32 := 0#32
  ![v136.toNat, 0]
def k0_off122 (i : grid0.Coords) (k0_t3 : Fin k0_t3_loop.trips) (c1_i32_70 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c224_i32 : BitVec 32 := 224#32
  let v4 : BitVec 32 := Scalar.muli v2 c224_i32
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let v101 : BitVec 32 := Scalar.addi v58 c1_i32_70
  let c2_i32_92 : BitVec 32 := 2#32
  let v139 : BitVec 32 := Scalar.addi v101 c2_i32_92
  let c112_i32_93 : BitVec 32 := 112#32
  let v140 : BitVec 32 := Scalar.muli v139 c112_i32_93
  let v141 : BitVec 32 := Scalar.addi v4 v140
  let c0_i32_94 : BitVec 32 := 0#32
  ![v141.toNat, 0]
def k0_cond4 (i : grid0.Coords) (k0_t3 : Fin k0_t3_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c192_i32 : BitVec 32 := 192#32
  let v3 : BitVec 32 := Scalar.remsi v2 c192_i32
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v168 : BitVec 32 := Scalar.addi v3 v165
  let c96_i32_108 : BitVec 32 := 96#32
  let v169 : BitVec 1 := Scalar.cmpi .slt v168 c96_i32_108
  let v170 : BitVec 32 := Scalar.extui v169
  let c0_i32_110 : BitVec 32 := 0#32
  let v171 : BitVec 1 := Scalar.cmpi .ne v170 c0_i32_110
  v171

@[reducible] def k0_t8_loop : Scf.Loop 32 :=
  let c0_i32_122 : BitVec 32 := 0#32
  let c7_i32 : BitVec 32 := 7#32
  let v187 : BitVec 32 := Scalar.addi c0_i32_122 c7_i32
  let c1_i32_123 : BitVec 32 := 1#32
  ⟨c0_i32_122, v187, c1_i32_123⟩
def k0_off123 (k0_t3 : Fin k0_t3_loop.trips) (k0_t8 : Fin k0_t8_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v193 : Index := Scalar.indexCast v165
  let c2_i32_107 : BitVec 32 := 2#32
  let v166 : BitVec 32 := Scalar.muli c2_i32_107 v165
  let v167 : BitVec 32 := Scalar.subi v144 v166
  let c112_i32_128 : BitVec 32 := 112#32
  let v191 : BitVec 32 := Scalar.muli v167 c112_i32_128
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v192 : BitVec 32 := Scalar.addi v191 v190
  let v194 : Index := Scalar.indexCast v192
  ![v193.toNat, v194.toNat]
def k0_off124 (k0_t8 : Fin k0_t8_loop.trips) (c0_i32_129 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v200 : BitVec 32 := Scalar.addi v190 c0_i32_129
  let v201 : Index := Scalar.indexCast v200
  let c0 : Index := 0#32
  ![v201.toNat, 0]
def k0_off125 (k0_t8 : Fin k0_t8_loop.trips) (c0_i32_132 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v210 : BitVec 32 := Scalar.addi v190 c0_i32_132
  let v211 : Index := Scalar.indexCast v210
  let c16 : Index := 16#32
  ![v211.toNat, 16]
def k0_off126 (k0_t8 : Fin k0_t8_loop.trips) (c0_i32_135 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v220 : BitVec 32 := Scalar.addi v190 c0_i32_135
  let v221 : Index := Scalar.indexCast v220
  let c32 : Index := 32#32
  ![v221.toNat, 32]
def k0_off127 (k0_t8 : Fin k0_t8_loop.trips) (c0_i32_138 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v230 : BitVec 32 := Scalar.addi v190 c0_i32_138
  let v231 : Index := Scalar.indexCast v230
  let c48 : Index := 48#32
  ![v231.toNat, 48]
def k0_off128 (k0_t8 : Fin k0_t8_loop.trips) (c0_i32_141 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v240 : BitVec 32 := Scalar.addi v190 c0_i32_141
  let v241 : Index := Scalar.indexCast v240
  let c64 : Index := 64#32
  ![v241.toNat, 64]
def k0_off129 (k0_t8 : Fin k0_t8_loop.trips) (c0_i32_144 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v250 : BitVec 32 := Scalar.addi v190 c0_i32_144
  let v251 : Index := Scalar.indexCast v250
  let c80 : Index := 80#32
  ![v251.toNat, 80]
def k0_off130 (k0_t8 : Fin k0_t8_loop.trips) (c0_i32_147 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v260 : BitVec 32 := Scalar.addi v190 c0_i32_147
  let v261 : Index := Scalar.indexCast v260
  let c96 : Index := 96#32
  ![v261.toNat, 96]
def k0_off131 (k0_t8 : Fin k0_t8_loop.trips) (c0_i32_150 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v270 : BitVec 32 := Scalar.addi v190 c0_i32_150
  let v271 : Index := Scalar.indexCast v270
  let c112 : Index := 112#32
  ![v271.toNat, 112]
def k0_off132 (k0_t8 : Fin k0_t8_loop.trips) (c0_i32_153 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v280 : BitVec 32 := Scalar.addi v190 c0_i32_153
  let v281 : Index := Scalar.indexCast v280
  let c128 : Index := 128#32
  ![v281.toNat, 128]
def k0_off133 (k0_t8 : Fin k0_t8_loop.trips) (c0_i32_156 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v290 : BitVec 32 := Scalar.addi v190 c0_i32_156
  let v291 : Index := Scalar.indexCast v290
  let c144 : Index := 144#32
  ![v291.toNat, 144]
def k0_off134 (k0_t8 : Fin k0_t8_loop.trips) (c0_i32_159 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v300 : BitVec 32 := Scalar.addi v190 c0_i32_159
  let v301 : Index := Scalar.indexCast v300
  let c160 : Index := 160#32
  ![v301.toNat, 160]
def k0_off135 (k0_t8 : Fin k0_t8_loop.trips) (c0_i32_162 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v310 : BitVec 32 := Scalar.addi v190 c0_i32_162
  let v311 : Index := Scalar.indexCast v310
  let c176 : Index := 176#32
  ![v311.toNat, 176]
def k0_off136 (k0_t8 : Fin k0_t8_loop.trips) (c0_i32_165 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v320 : BitVec 32 := Scalar.addi v190 c0_i32_165
  let v321 : Index := Scalar.indexCast v320
  let c192 : Index := 192#32
  ![v321.toNat, 192]
def k0_off137 (k0_t8 : Fin k0_t8_loop.trips) (c0_i32_168 : BitVec 32) : Fin 2 → Nat :=
  let c0_i32_127 : BitVec 32 := 0#32
  let c0_i32_122 : BitVec 32 := 0#32
  let c1_i32_123 : BitVec 32 := 1#32
  let arg16 : BitVec 32 := Scf.iv c0_i32_122 c1_i32_123 k0_t8
  let c1_i32_126 : BitVec 32 := 1#32
  let v188 : BitVec 32 := Scalar.muli arg16 c1_i32_126
  let v189 : BitVec 32 := Scalar.addi c0_i32_127 v188
  let c16_i32 : BitVec 32 := 16#32
  let v190 : BitVec 32 := Scalar.muli v189 c16_i32
  let v330 : BitVec 32 := Scalar.addi v190 c0_i32_168
  let v331 : Index := Scalar.indexCast v330
  let c208 : Index := 208#32
  ![v331.toNat, 208]
def k0_off138 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v187 : Index := Scalar.indexCast v165
  let c0 : Index := 0#32
  ![v187.toNat, 0]
def k0_off139 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v190 : Index := Scalar.indexCast v165
  let c16 : Index := 16#32
  ![v190.toNat, 16]
def k0_off140 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v193 : Index := Scalar.indexCast v165
  let c32 : Index := 32#32
  ![v193.toNat, 32]
def k0_off141 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v196 : Index := Scalar.indexCast v165
  let c48 : Index := 48#32
  ![v196.toNat, 48]
def k0_off142 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v199 : Index := Scalar.indexCast v165
  let c64 : Index := 64#32
  ![v199.toNat, 64]
def k0_off143 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v202 : Index := Scalar.indexCast v165
  let c80 : Index := 80#32
  ![v202.toNat, 80]
def k0_off144 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v205 : Index := Scalar.indexCast v165
  let c96 : Index := 96#32
  ![v205.toNat, 96]
def k0_off145 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v208 : Index := Scalar.indexCast v165
  let c112 : Index := 112#32
  ![v208.toNat, 112]
def k0_off146 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v211 : Index := Scalar.indexCast v165
  let c128 : Index := 128#32
  ![v211.toNat, 128]
def k0_off147 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v214 : Index := Scalar.indexCast v165
  let c144 : Index := 144#32
  ![v214.toNat, 144]
def k0_off148 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v217 : Index := Scalar.indexCast v165
  let c160 : Index := 160#32
  ![v217.toNat, 160]
def k0_off149 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v220 : Index := Scalar.indexCast v165
  let c176 : Index := 176#32
  ![v220.toNat, 176]
def k0_off150 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v223 : Index := Scalar.indexCast v165
  let c192 : Index := 192#32
  ![v223.toNat, 192]
def k0_off151 (k0_t3 : Fin k0_t3_loop.trips) : Fin 2 → Nat :=
  let c3_i32 : BitVec 32 := 3#32
  let c0_i32_17 : BitVec 32 := 0#32
  let c1_i32 : BitVec 32 := 1#32
  let arg15 : BitVec 32 := Scf.iv c0_i32_17 c1_i32 k0_t3
  let v57 : BitVec 32 := Scalar.muli c3_i32 arg15
  let c1_i32_44 : BitVec 32 := 1#32
  let v58 : BitVec 32 := Scalar.addi v57 c1_i32_44
  let c2_i32_96 : BitVec 32 := 2#32
  let v144 : BitVec 32 := Scalar.addi v58 c2_i32_96
  let c0_i32_101 : BitVec 32 := 0#32
  let v150 : BitVec 1 := Scalar.cmpi .sgt v144 c0_i32_101
  let v151 : BitVec 32 := Scalar.extui v150
  let c0_i32_102 : BitVec 32 := 0#32
  let v152 : BitVec 1 := Scalar.cmpi .slt v144 c0_i32_102
  let v153 : BitVec 32 := Scalar.extui v152
  let v154 : BitVec 32 := Scalar.subi v151 v153
  let c2_i32_100 : BitVec 32 := 2#32
  let c0_i32_103 : BitVec 32 := 0#32
  let v155 : BitVec 1 := Scalar.cmpi .sgt c2_i32_100 c0_i32_103
  let v156 : BitVec 32 := Scalar.extui v155
  let c0_i32_104 : BitVec 32 := 0#32
  let v157 : BitVec 1 := Scalar.cmpi .slt c2_i32_100 c0_i32_104
  let v158 : BitVec 32 := Scalar.extui v157
  let v159 : BitVec 32 := Scalar.subi v156 v158
  let v160 : BitVec 1 := Scalar.cmpi .ne v154 v159
  let v161 : BitVec 32 := Scalar.remsi v144 c2_i32_100
  let c0_i32_105 : BitVec 32 := 0#32
  let v162 : BitVec 1 := Scalar.cmpi .ne v161 c0_i32_105
  let v163 : BitVec 1 := Scalar.andi v160 v162
  let v149 : BitVec 32 := Scalar.divsi v144 c2_i32_100
  let c1_i32_106 : BitVec 32 := 1#32
  let v164 : BitVec 32 := Scalar.subi v149 c1_i32_106
  let v165 : BitVec 32 := Scalar.select v163 v164 v149
  let v226 : Index := Scalar.indexCast v165
  let c208 : Index := 208#32
  ![v226.toNat, 208]
@[reducible] def k0_t9_loop : Scf.Loop 32 :=
  let c0_i32_122 : BitVec 32 := 0#32
  let c112_i32_123 : BitVec 32 := 112#32
  let v229 : BitVec 32 := Scalar.addi c0_i32_122 c112_i32_123
  let c1_i32_124 : BitVec 32 := 1#32
  ⟨c0_i32_122, v229, c1_i32_124⟩
def k0_off152 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v232 : Index := Scalar.indexCast v231
  let c0_129 : Index := 0#32
  ![v232.toNat, 0]
def k0_off153 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v240 : Index := Scalar.indexCast v231
  let c16_131 : Index := 16#32
  ![v240.toNat, 16]
def k0_off154 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v248 : Index := Scalar.indexCast v231
  let c32_133 : Index := 32#32
  ![v248.toNat, 32]
def k0_off155 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v256 : Index := Scalar.indexCast v231
  let c48_135 : Index := 48#32
  ![v256.toNat, 48]
def k0_off156 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v264 : Index := Scalar.indexCast v231
  let c64_137 : Index := 64#32
  ![v264.toNat, 64]
def k0_off157 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v272 : Index := Scalar.indexCast v231
  let c80_139 : Index := 80#32
  ![v272.toNat, 80]
def k0_off158 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v280 : Index := Scalar.indexCast v231
  let c96_141 : Index := 96#32
  ![v280.toNat, 96]
def k0_off159 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v288 : Index := Scalar.indexCast v231
  let c112_143 : Index := 112#32
  ![v288.toNat, 112]
def k0_off160 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v296 : Index := Scalar.indexCast v231
  let c128_145 : Index := 128#32
  ![v296.toNat, 128]
def k0_off161 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v304 : Index := Scalar.indexCast v231
  let c144_147 : Index := 144#32
  ![v304.toNat, 144]
def k0_off162 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v312 : Index := Scalar.indexCast v231
  let c160_149 : Index := 160#32
  ![v312.toNat, 160]
def k0_off163 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v320 : Index := Scalar.indexCast v231
  let c176_151 : Index := 176#32
  ![v320.toNat, 176]
def k0_off164 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v328 : Index := Scalar.indexCast v231
  let c192_153 : Index := 192#32
  ![v328.toNat, 192]
def k0_off165 (k0_t9 : Fin k0_t9_loop.trips) : Fin 2 → Nat :=
  let c0_i32_128 : BitVec 32 := 0#32
  let c0_i32_122 : BitVec 32 := 0#32
  let c1_i32_124 : BitVec 32 := 1#32
  let arg16 : BitVec 32 := Scf.iv c0_i32_122 c1_i32_124 k0_t9
  let c1_i32_127 : BitVec 32 := 1#32
  let v230 : BitVec 32 := Scalar.muli arg16 c1_i32_127
  let v231 : BitVec 32 := Scalar.addi c0_i32_128 v230
  let v336 : Index := Scalar.indexCast v231
  let c208_155 : Index := 208#32
  ![v336.toNat, 208]
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c192_i32 : BitVec 32 := 192#32
  let v3 : BitVec 32 := Scalar.remsi v2 c192_i32
  let c47_i32 : BitVec 32 := 47#32
  let v29 : BitVec 32 := Scalar.addi v3 c47_i32
  let c96_i32_21 : BitVec 32 := 96#32
  let v30 : BitVec 1 := Scalar.cmpi .slt v29 c96_i32_21
  let v31 : BitVec 32 := Scalar.extui v30
  let c0_i32_23 : BitVec 32 := 0#32
  let v32 : BitVec 1 := Scalar.cmpi .ne v31 c0_i32_23
  v32

@[reducible] def k0_t10_loop : Scf.Loop 32 :=
  let c0_i32_44 : BitVec 32 := 0#32
  let c7_i32 : BitVec 32 := 7#32
  let v57 : BitVec 32 := Scalar.addi c0_i32_44 c7_i32
  let c1_i32_45 : BitVec 32 := 1#32
  ⟨c0_i32_44, v57, c1_i32_45⟩
def k0_off166 (k0_t10 : Fin k0_t10_loop.trips) : Fin 2 → Nat :=
  let c47_i32_51 : BitVec 32 := 47#32
  let v62 : Index := Scalar.indexCast c47_i32_51
  let c0_i32_50 : BitVec 32 := 0#32
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v61 : BitVec 32 := Scalar.addi c0_i32_50 v60
  let v63 : Index := Scalar.indexCast v61
  ![47, v63.toNat]
def k0_off167 (k0_t10 : Fin k0_t10_loop.trips) (c0_i32_52 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v69 : BitVec 32 := Scalar.addi v60 c0_i32_52
  let v70 : Index := Scalar.indexCast v69
  let c0 : Index := 0#32
  ![v70.toNat, 0]
def k0_off168 (k0_t10 : Fin k0_t10_loop.trips) (c0_i32_55 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v79 : BitVec 32 := Scalar.addi v60 c0_i32_55
  let v80 : Index := Scalar.indexCast v79
  let c16 : Index := 16#32
  ![v80.toNat, 16]
def k0_off169 (k0_t10 : Fin k0_t10_loop.trips) (c0_i32_58 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v89 : BitVec 32 := Scalar.addi v60 c0_i32_58
  let v90 : Index := Scalar.indexCast v89
  let c32 : Index := 32#32
  ![v90.toNat, 32]
def k0_off170 (k0_t10 : Fin k0_t10_loop.trips) (c0_i32_61 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v99 : BitVec 32 := Scalar.addi v60 c0_i32_61
  let v100 : Index := Scalar.indexCast v99
  let c48 : Index := 48#32
  ![v100.toNat, 48]
def k0_off171 (k0_t10 : Fin k0_t10_loop.trips) (c0_i32_64 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v109 : BitVec 32 := Scalar.addi v60 c0_i32_64
  let v110 : Index := Scalar.indexCast v109
  let c64 : Index := 64#32
  ![v110.toNat, 64]
def k0_off172 (k0_t10 : Fin k0_t10_loop.trips) (c0_i32_67 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v119 : BitVec 32 := Scalar.addi v60 c0_i32_67
  let v120 : Index := Scalar.indexCast v119
  let c80 : Index := 80#32
  ![v120.toNat, 80]
def k0_off173 (k0_t10 : Fin k0_t10_loop.trips) (c0_i32_70 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v129 : BitVec 32 := Scalar.addi v60 c0_i32_70
  let v130 : Index := Scalar.indexCast v129
  let c96 : Index := 96#32
  ![v130.toNat, 96]
def k0_off174 (k0_t10 : Fin k0_t10_loop.trips) (c0_i32_73 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v139 : BitVec 32 := Scalar.addi v60 c0_i32_73
  let v140 : Index := Scalar.indexCast v139
  let c112 : Index := 112#32
  ![v140.toNat, 112]
def k0_off175 (k0_t10 : Fin k0_t10_loop.trips) (c0_i32_76 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v149 : BitVec 32 := Scalar.addi v60 c0_i32_76
  let v150 : Index := Scalar.indexCast v149
  let c128 : Index := 128#32
  ![v150.toNat, 128]
def k0_off176 (k0_t10 : Fin k0_t10_loop.trips) (c0_i32_79 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v159 : BitVec 32 := Scalar.addi v60 c0_i32_79
  let v160 : Index := Scalar.indexCast v159
  let c144 : Index := 144#32
  ![v160.toNat, 144]
def k0_off177 (k0_t10 : Fin k0_t10_loop.trips) (c0_i32_82 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v169 : BitVec 32 := Scalar.addi v60 c0_i32_82
  let v170 : Index := Scalar.indexCast v169
  let c160 : Index := 160#32
  ![v170.toNat, 160]
def k0_off178 (k0_t10 : Fin k0_t10_loop.trips) (c0_i32_85 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v179 : BitVec 32 := Scalar.addi v60 c0_i32_85
  let v180 : Index := Scalar.indexCast v179
  let c176 : Index := 176#32
  ![v180.toNat, 176]
def k0_off179 (k0_t10 : Fin k0_t10_loop.trips) (c0_i32_88 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v189 : BitVec 32 := Scalar.addi v60 c0_i32_88
  let v190 : Index := Scalar.indexCast v189
  let c192 : Index := 192#32
  ![v190.toNat, 192]
def k0_off180 (k0_t10 : Fin k0_t10_loop.trips) (c0_i32_91 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t10
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v199 : BitVec 32 := Scalar.addi v60 c0_i32_91
  let v200 : Index := Scalar.indexCast v199
  let c208 : Index := 208#32
  ![v200.toNat, 208]
@[reducible] def k0_t11_loop : Scf.Loop 32 :=
  let c0_i32_58 : BitVec 32 := 0#32
  let c112_i32_59 : BitVec 32 := 112#32
  let v99 : BitVec 32 := Scalar.addi c0_i32_58 c112_i32_59
  let c1_i32_60 : BitVec 32 := 1#32
  ⟨c0_i32_58, v99, c1_i32_60⟩
def k0_off181 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v102 : Index := Scalar.indexCast v101
  let c0_65 : Index := 0#32
  ![v102.toNat, 0]
def k0_off182 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v110 : Index := Scalar.indexCast v101
  let c16_67 : Index := 16#32
  ![v110.toNat, 16]
def k0_off183 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v118 : Index := Scalar.indexCast v101
  let c32_69 : Index := 32#32
  ![v118.toNat, 32]
def k0_off184 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v126 : Index := Scalar.indexCast v101
  let c48_71 : Index := 48#32
  ![v126.toNat, 48]
def k0_off185 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v134 : Index := Scalar.indexCast v101
  let c64_73 : Index := 64#32
  ![v134.toNat, 64]
def k0_off186 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v142 : Index := Scalar.indexCast v101
  let c80_75 : Index := 80#32
  ![v142.toNat, 80]
def k0_off187 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v150 : Index := Scalar.indexCast v101
  let c96_77 : Index := 96#32
  ![v150.toNat, 96]
def k0_off188 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v158 : Index := Scalar.indexCast v101
  let c112_79 : Index := 112#32
  ![v158.toNat, 112]
def k0_off189 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v166 : Index := Scalar.indexCast v101
  let c128_81 : Index := 128#32
  ![v166.toNat, 128]
def k0_off190 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v174 : Index := Scalar.indexCast v101
  let c144_83 : Index := 144#32
  ![v174.toNat, 144]
def k0_off191 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v182 : Index := Scalar.indexCast v101
  let c160_85 : Index := 160#32
  ![v182.toNat, 160]
def k0_off192 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v190 : Index := Scalar.indexCast v101
  let c176_87 : Index := 176#32
  ![v190.toNat, 176]
def k0_off193 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v198 : Index := Scalar.indexCast v101
  let c192_89 : Index := 192#32
  ![v198.toNat, 192]
def k0_off194 (k0_t11 : Fin k0_t11_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t11
  let c1_i32_63 : BitVec 32 := 1#32
  let v100 : BitVec 32 := Scalar.muli arg15 c1_i32_63
  let v101 : BitVec 32 := Scalar.addi c0_i32_64 v100
  let v206 : Index := Scalar.indexCast v101
  let c208_91 : Index := 208#32
  ![v206.toNat, 208]
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v2 : BitVec 32 := Scalar.muli v1 c48_i32
  let c192_i32 : BitVec 32 := 192#32
  let v3 : BitVec 32 := Scalar.remsi v2 c192_i32
  let c47_i32_31 : BitVec 32 := 47#32
  let v43 : BitVec 32 := Scalar.addi v3 c47_i32_31
  let c96_i32_32 : BitVec 32 := 96#32
  let v44 : BitVec 1 := Scalar.cmpi .slt v43 c96_i32_32
  let v45 : BitVec 32 := Scalar.extui v44
  let c0_i32_34 : BitVec 32 := 0#32
  let v46 : BitVec 1 := Scalar.cmpi .ne v45 c0_i32_34
  v46

@[reducible] def k0_t12_loop : Scf.Loop 32 :=
  let c0_i32_44 : BitVec 32 := 0#32
  let c7_i32 : BitVec 32 := 7#32
  let v57 : BitVec 32 := Scalar.addi c0_i32_44 c7_i32
  let c1_i32_45 : BitVec 32 := 1#32
  ⟨c0_i32_44, v57, c1_i32_45⟩
def k0_off195 (k0_t12 : Fin k0_t12_loop.trips) : Fin 2 → Nat :=
  let c47_i32_51 : BitVec 32 := 47#32
  let v62 : Index := Scalar.indexCast c47_i32_51
  let c112_i32_50 : BitVec 32 := 112#32
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v61 : BitVec 32 := Scalar.addi c112_i32_50 v60
  let v63 : Index := Scalar.indexCast v61
  ![47, v63.toNat]
def k0_off196 (k0_t12 : Fin k0_t12_loop.trips) (c0_i32_52 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v69 : BitVec 32 := Scalar.addi v60 c0_i32_52
  let v70 : Index := Scalar.indexCast v69
  let c0 : Index := 0#32
  ![v70.toNat, 0]
def k0_off197 (k0_t12 : Fin k0_t12_loop.trips) (c0_i32_55 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v79 : BitVec 32 := Scalar.addi v60 c0_i32_55
  let v80 : Index := Scalar.indexCast v79
  let c16 : Index := 16#32
  ![v80.toNat, 16]
def k0_off198 (k0_t12 : Fin k0_t12_loop.trips) (c0_i32_58 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v89 : BitVec 32 := Scalar.addi v60 c0_i32_58
  let v90 : Index := Scalar.indexCast v89
  let c32 : Index := 32#32
  ![v90.toNat, 32]
def k0_off199 (k0_t12 : Fin k0_t12_loop.trips) (c0_i32_61 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v99 : BitVec 32 := Scalar.addi v60 c0_i32_61
  let v100 : Index := Scalar.indexCast v99
  let c48 : Index := 48#32
  ![v100.toNat, 48]
def k0_off200 (k0_t12 : Fin k0_t12_loop.trips) (c0_i32_64 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v109 : BitVec 32 := Scalar.addi v60 c0_i32_64
  let v110 : Index := Scalar.indexCast v109
  let c64 : Index := 64#32
  ![v110.toNat, 64]
def k0_off201 (k0_t12 : Fin k0_t12_loop.trips) (c0_i32_67 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v119 : BitVec 32 := Scalar.addi v60 c0_i32_67
  let v120 : Index := Scalar.indexCast v119
  let c80 : Index := 80#32
  ![v120.toNat, 80]
def k0_off202 (k0_t12 : Fin k0_t12_loop.trips) (c0_i32_70 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v129 : BitVec 32 := Scalar.addi v60 c0_i32_70
  let v130 : Index := Scalar.indexCast v129
  let c96 : Index := 96#32
  ![v130.toNat, 96]
def k0_off203 (k0_t12 : Fin k0_t12_loop.trips) (c0_i32_73 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v139 : BitVec 32 := Scalar.addi v60 c0_i32_73
  let v140 : Index := Scalar.indexCast v139
  let c112 : Index := 112#32
  ![v140.toNat, 112]
def k0_off204 (k0_t12 : Fin k0_t12_loop.trips) (c0_i32_76 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v149 : BitVec 32 := Scalar.addi v60 c0_i32_76
  let v150 : Index := Scalar.indexCast v149
  let c128 : Index := 128#32
  ![v150.toNat, 128]
def k0_off205 (k0_t12 : Fin k0_t12_loop.trips) (c0_i32_79 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v159 : BitVec 32 := Scalar.addi v60 c0_i32_79
  let v160 : Index := Scalar.indexCast v159
  let c144 : Index := 144#32
  ![v160.toNat, 144]
def k0_off206 (k0_t12 : Fin k0_t12_loop.trips) (c0_i32_82 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v169 : BitVec 32 := Scalar.addi v60 c0_i32_82
  let v170 : Index := Scalar.indexCast v169
  let c160 : Index := 160#32
  ![v170.toNat, 160]
def k0_off207 (k0_t12 : Fin k0_t12_loop.trips) (c0_i32_85 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v179 : BitVec 32 := Scalar.addi v60 c0_i32_85
  let v180 : Index := Scalar.indexCast v179
  let c176 : Index := 176#32
  ![v180.toNat, 176]
def k0_off208 (k0_t12 : Fin k0_t12_loop.trips) (c0_i32_88 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v189 : BitVec 32 := Scalar.addi v60 c0_i32_88
  let v190 : Index := Scalar.indexCast v189
  let c192 : Index := 192#32
  ![v190.toNat, 192]
def k0_off209 (k0_t12 : Fin k0_t12_loop.trips) (c0_i32_91 : BitVec 32) : Fin 2 → Nat :=
  let c0_i32_49 : BitVec 32 := 0#32
  let c0_i32_44 : BitVec 32 := 0#32
  let c1_i32_45 : BitVec 32 := 1#32
  let arg15 : BitVec 32 := Scf.iv c0_i32_44 c1_i32_45 k0_t12
  let c1_i32_48 : BitVec 32 := 1#32
  let v58 : BitVec 32 := Scalar.muli arg15 c1_i32_48
  let v59 : BitVec 32 := Scalar.addi c0_i32_49 v58
  let c16_i32 : BitVec 32 := 16#32
  let v60 : BitVec 32 := Scalar.muli v59 c16_i32
  let v199 : BitVec 32 := Scalar.addi v60 c0_i32_91
  let v200 : Index := Scalar.indexCast v199
  let c208 : Index := 208#32
  ![v200.toNat, 208]
@[reducible] def k0_t13_loop : Scf.Loop 32 :=
  let c0_i32_58 : BitVec 32 := 0#32
  let c112_i32_59 : BitVec 32 := 112#32
  let v99 : BitVec 32 := Scalar.addi c0_i32_58 c112_i32_59
  let c1_i32_60 : BitVec 32 := 1#32
  ⟨c0_i32_58, v99, c1_i32_60⟩
def k0_off210 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v102 : Index := Scalar.indexCast v101
  let c0_65 : Index := 0#32
  ![v102.toNat, 0]
def k0_off211 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v110 : Index := Scalar.indexCast v101
  let c16_67 : Index := 16#32
  ![v110.toNat, 16]
def k0_off212 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v118 : Index := Scalar.indexCast v101
  let c32_69 : Index := 32#32
  ![v118.toNat, 32]
def k0_off213 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v126 : Index := Scalar.indexCast v101
  let c48_71 : Index := 48#32
  ![v126.toNat, 48]
def k0_off214 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v134 : Index := Scalar.indexCast v101
  let c64_73 : Index := 64#32
  ![v134.toNat, 64]
def k0_off215 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v142 : Index := Scalar.indexCast v101
  let c80_75 : Index := 80#32
  ![v142.toNat, 80]
def k0_off216 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v150 : Index := Scalar.indexCast v101
  let c96_77 : Index := 96#32
  ![v150.toNat, 96]
def k0_off217 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v158 : Index := Scalar.indexCast v101
  let c112_79 : Index := 112#32
  ![v158.toNat, 112]
def k0_off218 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v166 : Index := Scalar.indexCast v101
  let c128_81 : Index := 128#32
  ![v166.toNat, 128]
def k0_off219 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v174 : Index := Scalar.indexCast v101
  let c144_83 : Index := 144#32
  ![v174.toNat, 144]
def k0_off220 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v182 : Index := Scalar.indexCast v101
  let c160_85 : Index := 160#32
  ![v182.toNat, 160]
def k0_off221 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v190 : Index := Scalar.indexCast v101
  let c176_87 : Index := 176#32
  ![v190.toNat, 176]
def k0_off222 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v198 : Index := Scalar.indexCast v101
  let c192_89 : Index := 192#32
  ![v198.toNat, 192]
def k0_off223 (k0_t13 : Fin k0_t13_loop.trips) : Fin 2 → Nat :=
  let c0_i32_64 : BitVec 32 := 0#32
  let c0_i32_58 : BitVec 32 := 0#32
  let c1_i32_60 : BitVec 32 := 1#32
  let arg15 : BitVec 32 := Scf.iv c0_i32_58 c1_i32_60 k0_t13
  let c1_i32_63 : BitVec 32 := 1#32
  let v100 : BitVec 32 := Scalar.muli arg15 c1_i32_63
  let v101 : BitVec 32 := Scalar.addi c0_i32_64 v100
  let v206 : Index := Scalar.indexCast v101
  let c208_91 : Index := 208#32
  ![v206.toNat, 208]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x192x224x224 : Shape := ⟨4, ![8, 192, 224, 224]⟩
abbrev S224x96 : Shape := ⟨2, ![224, 96]⟩
abbrev S224 : Shape := ⟨1, ![224]⟩
abbrev S224x1 : Shape := ⟨2, ![224, 1]⟩
abbrev S224x224 : Shape := ⟨2, ![224, 224]⟩
abbrev S1x224 : Shape := ⟨2, ![1, 224]⟩
abbrev S_ : Shape := ⟨0, ![]⟩
abbrev S224x224x1 : Shape := ⟨3, ![224, 224, 1]⟩
abbrev S1 : Shape := ⟨1, ![1]⟩
abbrev S1x1x1 : Shape := ⟨3, ![1, 1, 1]⟩
abbrev S224x224x96 : Shape := ⟨3, ![224, 224, 96]⟩
abbrev S224x224x192 : Shape := ⟨3, ![224, 224, 192]⟩
abbrev S192x224x224 : Shape := ⟨3, ![192, 224, 224]⟩
abbrev S1x192x224x224 : Shape := ⟨4, ![1, 192, 224, 224]⟩

abbrev nBuf : Space → Nat
  | .hbm => 60
  | .vmem => 0
  | .smem => 0
  | _ => 0

abbrev bufTy : (tb : Table) → Fin (tcTables nBuf tb) → BufTy
  | .hbm, ⟨0, _⟩ => ⟨S8x192x224x224, .f32⟩
  | .hbm, ⟨1, _⟩ => ⟨S224x96, .f32⟩
  | .hbm, ⟨2, _⟩ => ⟨S224x96, .f32⟩
  | .hbm, ⟨3, _⟩ => ⟨S224, .i32⟩
  | .hbm, ⟨4, _⟩ => ⟨S224x1, .i32⟩
  | .hbm, ⟨5, _⟩ => ⟨S224x224, .i32⟩
  | .hbm, ⟨6, _⟩ => ⟨S224, .i32⟩
  | .hbm, ⟨7, _⟩ => ⟨S1x224, .i32⟩
  | .hbm, ⟨8, _⟩ => ⟨S224x224, .i32⟩
  | .hbm, ⟨9, _⟩ => ⟨S_, .i32⟩
  | .hbm, ⟨10, _⟩ => ⟨S224x224, .i32⟩
  | .hbm, ⟨11, _⟩ => ⟨S224x224, .i1⟩
  | .hbm, ⟨12, _⟩ => ⟨S_, .i32⟩
  | .hbm, ⟨13, _⟩ => ⟨S224x224, .i32⟩
  | .hbm, ⟨14, _⟩ => ⟨S224x224, .i32⟩
  | .hbm, ⟨15, _⟩ => ⟨S224x224, .i32⟩
  | .hbm, ⟨16, _⟩ => ⟨S224x224x1, .i32⟩
  | .hbm, ⟨17, _⟩ => ⟨S1, .i32⟩
  | .hbm, ⟨18, _⟩ => ⟨S_, .i32⟩
  | .hbm, ⟨19, _⟩ => ⟨S224x224x1, .i32⟩
  | .hbm, ⟨20, _⟩ => ⟨S224x224x1, .i1⟩
  | .hbm, ⟨21, _⟩ => ⟨S1x1x1, .i32⟩
  | .hbm, ⟨22, _⟩ => ⟨S224x224x1, .i32⟩
  | .hbm, ⟨23, _⟩ => ⟨S224x224x1, .i1⟩
  | .hbm, ⟨24, _⟩ => ⟨S224x224x1, .i1⟩
  | .hbm, ⟨25, _⟩ => ⟨S_, .i1⟩
  | .hbm, ⟨26, _⟩ => ⟨S224x224, .i1⟩
  | .hbm, ⟨27, _⟩ => ⟨S224x224x96, .f32⟩
  | .hbm, ⟨28, _⟩ => ⟨S224x224x96, .i1⟩
  | .hbm, ⟨29, _⟩ => ⟨S_, .f32⟩
  | .hbm, ⟨30, _⟩ => ⟨S224x224x96, .f32⟩
  | .hbm, ⟨31, _⟩ => ⟨S224x224x96, .f32⟩
  | .hbm, ⟨32, _⟩ => ⟨S_, .i32⟩
  | .hbm, ⟨33, _⟩ => ⟨S224x224, .i32⟩
  | .hbm, ⟨34, _⟩ => ⟨S224x224, .i1⟩
  | .hbm, ⟨35, _⟩ => ⟨S_, .i32⟩
  | .hbm, ⟨36, _⟩ => ⟨S224x224, .i32⟩
  | .hbm, ⟨37, _⟩ => ⟨S224x224, .i32⟩
  | .hbm, ⟨38, _⟩ => ⟨S224x224, .i32⟩
  | .hbm, ⟨39, _⟩ => ⟨S224x224x1, .i32⟩
  | .hbm, ⟨40, _⟩ => ⟨S1, .i32⟩
  | .hbm, ⟨41, _⟩ => ⟨S_, .i32⟩
  | .hbm, ⟨42, _⟩ => ⟨S224x224x1, .i32⟩
  | .hbm, ⟨43, _⟩ => ⟨S224x224x1, .i1⟩
  | .hbm, ⟨44, _⟩ => ⟨S1x1x1, .i32⟩
  | .hbm, ⟨45, _⟩ => ⟨S224x224x1, .i32⟩
  | .hbm, ⟨46, _⟩ => ⟨S224x224x1, .i1⟩
  | .hbm, ⟨47, _⟩ => ⟨S224x224x1, .i1⟩
  | .hbm, ⟨48, _⟩ => ⟨S_, .i1⟩
  | .hbm, ⟨49, _⟩ => ⟨S224x224, .i1⟩
  | .hbm, ⟨50, _⟩ => ⟨S224x224x96, .f32⟩
  | .hbm, ⟨51, _⟩ => ⟨S224x224x96, .i1⟩
  | .hbm, ⟨52, _⟩ => ⟨S_, .f32⟩
  | .hbm, ⟨53, _⟩ => ⟨S224x224x96, .f32⟩
  | .hbm, ⟨54, _⟩ => ⟨S224x224x96, .f32⟩
  | .hbm, ⟨55, _⟩ => ⟨S224x224x192, .f32⟩
  | .hbm, ⟨56, _⟩ => ⟨S192x224x224, .f32⟩
  | .hbm, ⟨57, _⟩ => ⟨S1x192x224x224, .f32⟩
  | .hbm, ⟨58, _⟩ => ⟨S8x192x224x224, .f32⟩
  | .hbm, ⟨59, _⟩ => ⟨S8x192x224x224, .f32⟩
  | _, _ => ⟨S8x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v6 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩

abbrev nD : Nat := 1
abbrev τ : Topo := Topo.v7x

variable {F : FTy → Type} [FloatOps F]
-- ==== Proof.Prog.lean ====
/-
  The adding of the positions to one chunk, as ONE program. The printed kernel holds six copies of it (the first
  chunk, the three chunks of a trip of the main loop, the last two), each written out store by store; here the
  copy is a recursion over its stores, with the chunk's buffer, the table's offsets and the branch's condition
  as parameters. Proof/Copies.lean says that each printed copy is this program.
-/
module

public import proofs.«01_k».proof.Proof.Gen.KernelIdeal

@[expose] public section

noncomputable section

namespace Cert.Proof

open Cert.KernelIdeal Cert.KernelIdeal.Gen
open Idealize.ShloMosaic Idealize.SL.Sem

variable {F : FTy → Type} [FloatOps F]

/-- The programs of the tile at grid point `i`. -/
abbrev TProg (F : FTy → Type) [FloatOps F] (i : grid0.Coords) (α : Type) :=
  Prog (TpuEff nD τ sig (Elt F) Λ₀ (.scVector ((i 0).castLE hcore0) ((i 1).castLE hsub0))) α

/-- `f s`, then `f (s + 1)`, …: `n` of them. -/
def forUp {E : Type → Type} (f : Nat → Prog E Unit) : Nat → Nat → Prog E Unit
  | _, 0 => pure ⟨⟩
  | s, n + 1 => f s >>= fun _ => forUp f (s + 1) n

/-- Lane `k` of a vector of sixteen is a slice of it. -/
theorem slices16 (k : Nat) : S16.Slices ![k % 16] S1 := by
  have h : k % 16 < 16 := Nat.mod_lt _ (by decide)
  generalize k % 16 = n at h
  revert n; decide

/-- Lane `k`, in all sixteen lanes. -/
def lane (v : FVec F S16 .f32) (k : Nat) : FVec F S16 .f32 :=
  broadcast S16 (extractAt ![0] (extractStridedSlice S1 ![k % 16] v (slices16 k)) inpos_S1_p0)

/-- The sixteen elements at `o` of a chunk's buffer, plus `p`: read (twice, as the kernel does), added, stored. -/
def addAt (i : grid0.Coords) (b : Memref sig .scVector .vmem S112x224 .f32) (o : Fin 2 → Nat)
    (ho : ∀ a, o a + S1x16.size a ≤ S112x224.size a) (p : FVec F S16 .f32) : TProg F i Unit := do
  let v : Vec F S1x16 .f32 ← Prog.lift (.load b (Rect.unit (s := S112x224) o S1x16.size ho).toLoadRect (View.loadsAt_vmem h_S1x16))
  let _ : Vec F S1x16 .f32 ← Prog.lift (.load b (Rect.unit (s := S112x224) o S1x16.size ho).toLoadRect (View.loadsAt_vmem h_S1x16))
  Prog.lift (.store b (Rect.unit (s := S112x224) o S1x16.size ho)
    (shapeCast S1x16 (addf (shapeCast S16 v shapeCasts_S1x16_S16) p) shapeCasts_S16_S1x16) Finset.univ (View.stores_vmem_bits_univ h_S1x16 rfl) (.inl rfl))

/-- The loop over blocks of sixteen rows, and the loop over rows. -/
@[reducible] def rowLoop : Scf.Loop 32 := ⟨0#32, Scalar.addi 0#32 7#32, 1#32⟩
@[reducible] def colLoop : Scf.Loop 32 := ⟨0#32, Scalar.addi 0#32 112#32, 1#32⟩
theorem rowLoop_ok : rowLoop.OK := by decide
theorem colLoop_ok : colLoop.OK := by decide

/-- Where row `k` of block `t` starts, group of lanes `j`; -/
def rowOff (t : Fin rowLoop.trips) (n : Nat) : Fin 2 → Nat :=
  ![(Scalar.indexCast (Scalar.addi (Scalar.muli (Scalar.addi 0#32 (Scalar.muli (Scf.iv 0#32 1#32 t) 1#32)) 16#32) (BitVec.ofNat 32 (n / 14 % 16))) : Index).toNat,
    16 * (n % 14)]
/-- where row `t` starts, group of lanes `j`. -/
def colOff (t : Fin colLoop.trips) (j : Nat) : Fin 2 → Nat :=
  ![(Scalar.indexCast (Scalar.addi 0#32 (Scalar.muli (Scf.iv 0#32 1#32 t) 1#32)) : Index).toNat, 16 * (j % 14)]

theorem rowLoop_trips : rowLoop.trips = 7 := by decide
theorem colLoop_trips : colLoop.trips = 112 := by decide

theorem rowOff_eq (t : Fin rowLoop.trips) (n : Nat) : rowOff t n = ![16 * t.val + n / 14 % 16, 16 * (n % 14)] := by
  have h : n / 14 % 16 < 16 := Nat.mod_lt _ (by decide)
  unfold rowOff
  generalize n / 14 % 16 = k at h
  congr 1
  revert k t; decide
theorem colOff_eq (t : Fin colLoop.trips) (j : Nat) : colOff t j = ![t.val, 16 * (j % 14)] := by
  unfold colOff
  congr 1
  revert t; decide

theorem rowOff_inb (t : Fin rowLoop.trips) (n : Nat) : ∀ a, rowOff t n a + S1x16.size a ≤ S112x224.size a := by
  have h1 : n / 14 % 16 < 16 := Nat.mod_lt _ (by decide)
  have h2 : n % 14 < 14 := Nat.mod_lt _ (by decide)
  have h3 : t.val < 7 := rowLoop_trips ▸ t.isLt
  rw [rowOff_eq]
  intro a
  fin_cases a
  · show 16 * t.val + n / 14 % 16 + 1 ≤ 112; omega
  · show 16 * (n % 14) + 16 ≤ 224; omega
theorem colOff_inb (t : Fin colLoop.trips) (j : Nat) : ∀ a, colOff t j a + S1x16.size a ≤ S112x224.size a := by
  have h2 : j % 14 < 14 := Nat.mod_lt _ (by decide)
  have h3 : t.val < 112 := colLoop_trips ▸ t.isLt
  rw [colOff_eq]
  intro a
  fin_cases a
  · show t.val + 1 ≤ 112; omega
  · show 16 * (j % 14) + 16 ≤ 224; omega

/-- One block of sixteen rows: the table's sixteen elements at `oe`, element `k` added to row `k`. -/
def rowBody (i : grid0.Coords) (e : Memref sig .scVector .vmem S48x224 .f32) (b : Memref sig .scVector .vmem S112x224 .f32)
    (oe : Fin 2 → Nat) (hoe : ∀ a, oe a + S1x16.size a ≤ S48x224.size a) (t : Fin rowLoop.trips) : TProg F i Unit := do
  let v : Vec F S1x16 .f32 ← Prog.lift (.load e (Rect.unit (s := S48x224) oe S1x16.size hoe).toLoadRect (View.loadsAt_vmem h_S1x16))
  forUp (fun n => addAt i b (rowOff t n) (rowOff_inb t n) (lane (shapeCast S16 v shapeCasts_S1x16_S16) (n / 14))) 0 224

/-- One row: its fourteen groups of sixteen lanes, group `j` plus `p j`. -/
def colBody (i : grid0.Coords) (b : Memref sig .scVector .vmem S112x224 .f32) (p : Nat → FVec F S16 .f32)
    (t : Fin colLoop.trips) : TProg F i Unit :=
  forUp (fun j => addAt i b (colOff t j) (colOff_inb t j) (p j)) 0 14

/-- `f s`, `f (s + 1)`, …: the results of `n` of them, the earlier ones by `g`. -/
def readUp {E : Type → Type} {α : Type} (f : Nat → Prog E α) : Nat → Nat → (Nat → α) → Prog E (Nat → α)
  | _, 0, g => pure g
  | s, n + 1, g => f s >>= fun v => readUp f (s + 1) n (fun k => if k = s then v else g k)

/-- Sixteen elements of the table. -/
def readAt16 (i : grid0.Coords) (e : Memref sig .scVector .vmem S48x224 .f32) (o : Fin 2 → Nat)
    (ho : ∀ a, o a + S1x16.size a ≤ S48x224.size a) : TProg F i (FVec F S16 .f32) := do
  let v : Vec F S1x16 .f32 ← Prog.lift (.load e (Rect.unit (s := S48x224) o S1x16.size ho).toLoadRect (View.loadsAt_vmem h_S1x16))
  pure (shapeCast S16 v shapeCasts_S1x16_S16)

/-- The adding of the positions to the chunk in `b`, then `k`. When `c` is 1 the plane's positions are down its rows:
    seven blocks of sixteen rows, block `t` with the table's elements at `oe t`. When it is not they are along its
    columns: the table's fourteen groups at `oc`, added to each of the 112 rows. -/
def addPos {α : Type} (i : grid0.Coords) (e : Memref sig .scVector .vmem S48x224 .f32) (b : Memref sig .scVector .vmem S112x224 .f32)
    (c : BitVec 1) (oe : Fin rowLoop.trips → Fin 2 → Nat) (hoe : c = 1#1 → ∀ t a, oe t a + S1x16.size a ≤ S48x224.size a)
    (oc : Nat → Fin 2 → Nat) (hoc : ¬ c = 1#1 → ∀ j a, oc j a + S1x16.size a ≤ S48x224.size a) (k : TProg F i α) : TProg F i α :=
  if h : c = 1#1 then do
    Scf.Loop.for rowLoop rowLoop_ok ⟨⟩ (fun t _ => rowBody i e b (oe t) (hoe h t) t)
    k
  else do
    let p0 ← readAt16 i e (oc 0) (hoc h 0)
    let p ← readUp (fun j => readAt16 i e (oc j) (hoc h j)) 1 13 (fun _ => p0)
    Scf.Loop.for colLoop colLoop_ok ⟨⟩ (fun t _ => colBody i b p t)
    k

/-! The four transfers of a chunk: the rows of `x` from `o` on into the buffer `b`, begun and awaited; the buffer out to
    the rows of `y` from `o` on, begun and awaited. -/

def fetch (i : grid0.Coords) (x : Memref sig .scVector .hbm S344064x224 .f32) (o : Fin 2 → Nat)
    (ho : ∀ a, o a + S112x224.size a ≤ S344064x224.size a) (b : Memref sig .scVector .vmem S112x224 .f32) (hb : b.IsWhole)
    (sm : DmaSems sig S_) : TProg F i PUnit :=
  Prog.lift (.enqueueDma (x.slice (Rect.unit (s := S344064x224) o S112x224.size ho) (fun _ => rfl)) (.here b) (.dma sm.sem)
    (View.wordExact_bits rfl) hb.wordExact ⟨Or.inl rfl, trivial⟩)
def fetched (i : grid0.Coords) (x : Memref sig .scVector .hbm S344064x224 .f32) (o : Fin 2 → Nat)
    (ho : ∀ a, o a + S112x224.size a ≤ S344064x224.size a) (b : Memref sig .scVector .vmem S112x224 .f32) (hb : b.IsWhole)
    (sm : DmaSems sig S_) : TProg F i PUnit :=
  Prog.lift (.waitDma2 sm.sem (x.slice (Rect.unit (s := S344064x224) o S112x224.size ho) (fun _ => rfl)) b
    (View.wordExact_bits rfl) hb.wordExact)
def send (i : grid0.Coords) (y : Memref sig .scVector .hbm S344064x224 .f32) (o : Fin 2 → Nat)
    (ho : ∀ a, o a + S112x224.size a ≤ S344064x224.size a) (b : Memref sig .scVector .vmem S112x224 .f32) (hb : b.IsWhole)
    (sm : DmaSems sig S_) : TProg F i PUnit :=
  Prog.lift (.enqueueDma b (.here (y.slice (Rect.unit (s := S344064x224) o S112x224.size ho) (fun _ => rfl))) (.dma sm.sem)
    hb.wordExact (View.wordExact_bits rfl) ⟨Or.inl rfl, trivial⟩)
def sent (i : grid0.Coords) (y : Memref sig .scVector .hbm S344064x224 .f32) (o : Fin 2 → Nat)
    (ho : ∀ a, o a + S112x224.size a ≤ S344064x224.size a) (b : Memref sig .scVector .vmem S112x224 .f32) (hb : b.IsWhole)
    (sm : DmaSems sig S_) : TProg F i PUnit :=
  Prog.lift (.waitDma2 sm.sem b (y.slice (Rect.unit (s := S344064x224) o S112x224.size ho) (fun _ => rfl))
    hb.wordExact (View.wordExact_bits rfl))

/-- The tile's rows of the table, begun and awaited. -/
def fetchTab (i : grid0.Coords) (w : Memref sig .scVector .hbm S192x224 .f32) (o : Fin 2 → Nat)
    (ho : ∀ a, o a + S48x224.size a ≤ S192x224.size a) (e : Memref sig .scVector .vmem S48x224 .f32) (he : e.IsWhole)
    (sm : DmaSems sig S_) : TProg F i PUnit :=
  Prog.lift (.enqueueDma (w.slice (Rect.unit (s := S192x224) o S48x224.size ho) (fun _ => rfl)) (.here e) (.dma sm.sem)
    (View.wordExact_bits rfl) he.wordExact ⟨Or.inl rfl, trivial⟩)
def fetchedTab (i : grid0.Coords) (w : Memref sig .scVector .hbm S192x224 .f32) (o : Fin 2 → Nat)
    (ho : ∀ a, o a + S48x224.size a ≤ S192x224.size a) (e : Memref sig .scVector .vmem S48x224 .f32) (he : e.IsWhole)
    (sm : DmaSems sig S_) : TProg F i PUnit :=
  Prog.lift (.waitDma2 sm.sem (w.slice (Rect.unit (s := S192x224) o S48x224.size ho) (fun _ => rfl)) e
    (View.wordExact_bits rfl) he.wordExact)

end Cert.Proof
-- ==== Proof.Copies.lean ====
/-
  Each printed piece of the kernel, as the program of Proof/Prog.lean it is. The printed pieces hand small integers on to
  one another that nothing uses but further such integers (the offsets are functions of the grid point and the trip):
  here they are "some" values.
-/
module

public import proofs.«01_k».proof.Proof.Prog

@[expose] public section

noncomputable section

namespace Cert.Proof

open Cert.KernelIdeal Cert.KernelIdeal.Gen
open Idealize.ShloMosaic Idealize.SL.Sem

theorem off2_0_inb (i : grid0.Coords) : ∀ a, k0_off2 i 0#32 a + S112x224.size a ≤ S344064x224.size a := k0_off2_inb i 0
theorem off2_112_inb (i : grid0.Coords) : ∀ a, k0_off2 i 112#32 a + S112x224.size a ≤ S344064x224.size a := k0_off2_inb i 1
theorem off2_224_inb (i : grid0.Coords) : ∀ a, k0_off2 i 224#32 a + S112x224.size a ≤ S344064x224.size a := k0_off2_inb i 2
theorem off2_10528_inb (i : grid0.Coords) : ∀ a, k0_off2 i 10528#32 a + S112x224.size a ≤ S344064x224.size a := k0_off2_inb i 3
theorem off2_10416_inb (i : grid0.Coords) : ∀ a, k0_off2 i 10416#32 a + S112x224.size a ≤ S344064x224.size a := k0_off2_inb i 4
theorem off2_10640_inb (i : grid0.Coords) : ∀ a, k0_off2 i 10640#32 a + S112x224.size a ≤ S344064x224.size a := k0_off2_inb i 5

variable {F : FTy → Type} [FloatOps F]
variable (i : grid0.Coords) (arg2 : Memref sig .scVector .hbm S344064x224 .f32) (harg2 : arg2.IsWhole)
  (arg3 : Memref sig .scVector .hbm S192x224 .f32) (harg3 : arg3.IsWhole) (arg4 : Memref sig .scVector .hbm S344064x224 .f32) (harg4 : arg4.IsWhole)
  (arg5 : Memref sig .scVector .vmem S48x224 .f32) (harg5 : arg5.IsWhole) (arg6 : Memref sig .scVector .vmem S112x224 .f32) (harg6 : arg6.IsWhole)
  (arg7 : Memref sig .scVector .vmem S112x224 .f32) (harg7 : arg7.IsWhole) (arg8 : Memref sig .scVector .vmem S112x224 .f32) (harg8 : arg8.IsWhole)
  (arg9 arg10 arg11 arg12 arg13 arg14 v57_r0 : DmaSems sig S_)

/-- The table's groups on a fixed row. -/
def rowOf (p : Nat) (j : Nat) : Fin 2 → Nat := ![p, 16 * (j % 14)]
theorem rowOf_inb {p : Nat} (hp : p < 48) (j : Nat) : ∀ a, rowOf p j a + S1x16.size a ≤ S48x224.size a := by
  have h2 : j % 14 < 14 := Nat.mod_lt _ (by decide)
  intro a
  fin_cases a
  · show p + 1 ≤ 48; omega
  · show 16 * (j % 14) + 16 ≤ 224; omega

theorem row48_lt (t : Fin k0_t3_loop.trips) : k0_off48 t 0 < 48 := by revert t; decide +kernel
theorem row93_lt (t : Fin k0_t3_loop.trips) : k0_off93 t 0 < 48 := by revert t; decide +kernel
theorem row138_lt (t : Fin k0_t3_loop.trips) : k0_off138 t 0 < 48 := by revert t; decide +kernel

set_option maxRecDepth 100000 in
set_option maxHeartbeats 0 in
/-- The first chunk of a trip: its arrival, the adding, the sending. -/
theorem part241_eq (v3 v4 c0 c1 : BitVec 32) (t : Fin k0_t3_loop.trips) :
    ∃ r, k0_part241 (F := F) i arg2 harg2 arg3 harg3 arg4 harg4 arg5 harg5 arg6 harg6 arg7 harg7 arg8 harg8 arg9 arg10 arg11 arg12 arg13 arg14 v57_r0 v3 v4 c0 c1 t
      = (do
          fetched i arg2 (k0_off32 i t) (k0_off32_inb i t) arg7 harg7 arg10
          addPos i arg5 arg7 (k0_cond2 i t) (fun u => k0_off33 t u) (fun h u => k0_off33_inb i t u h)
            (rowOf (k0_off48 t 0)) (fun _ => rowOf_inb (row48_lt t)) (do
          send i arg4 (k0_off32 i t) (k0_off32_inb i t) arg7 harg7 arg13
          pure r)) := ⟨_, rfl⟩

set_option maxRecDepth 100000 in
set_option maxHeartbeats 0 in
/-- The buffer of the chunk before is free again and its next chunk on its way; the second chunk has arrived. -/
theorem part242_eq (v3 v4 : BitVec 32) (t : Fin k0_t3_loop.trips) (v58 v92 : BitVec 32) :
    ∃ r, k0_part242 (F := F) i arg2 harg2 arg3 harg3 arg4 harg4 arg5 harg5 arg6 harg6 arg7 harg7 arg8 harg8 arg9 arg10 arg11 arg12 arg13 arg14 v57_r0 v3 v4 t v58 v92
      = (do
          sent i arg4 (k0_off76 i t) (k0_off76_inb i t) arg6 harg6 arg12
          fetch i arg2 (k0_off77 i t 2#32) (k0_off77_inb i t 1) arg6 harg6 arg9
          fetched i arg2 (k0_off77 i t 1#32) (k0_off77_inb i t 0) arg8 harg8 arg11
          pure r) := ⟨_, rfl⟩

set_option maxRecDepth 100000 in
set_option maxHeartbeats 0 in
/-- The second chunk: the adding and the sending; the first buffer free and on its way; the third chunk has arrived. -/
theorem part243_eq (v4 : BitVec 32) (t : Fin k0_t3_loop.trips) (v58 v101 v122 v124 : BitVec 32) :
    ∃ r, k0_part243 (F := F) i arg2 harg2 arg3 harg3 arg4 harg4 arg5 harg5 arg6 harg6 arg7 harg7 arg8 harg8 arg9 arg10 arg11 arg12 arg13 arg14 v57_r0 v4 t v58 v101 v122 v124
      = (do
          addPos i arg5 arg8 (k0_cond3 i t) (fun u => k0_off78 t u) (fun h u => k0_off78_inb i t u h)
            (rowOf (k0_off93 t 0)) (fun _ => rowOf_inb (row93_lt t)) (do
          send i arg4 (k0_off77 i t 1#32) (k0_off77_inb i t 0) arg8 harg8 arg14
          sent i arg4 (k0_off121 i t 1#32) (k0_off121_inb i t 0) arg7 harg7 arg13
          fetch i arg2 (k0_off122 i t 1#32) (k0_off122_inb i t 0) arg7 harg7 arg10
          fetched i arg2 (k0_off77 i t 2#32) (k0_off77_inb i t 1) arg6 harg6 arg9
          pure r)) := ⟨_, rfl⟩

set_option maxRecDepth 100000 in
set_option maxHeartbeats 0 in
/-- Before the loop: the table, the first two chunks on their way, the first one done. -/
theorem part364_eq :
    ∃ r, k0_part364 (F := F) i arg2 harg2 arg3 harg3 arg4 harg4 arg5 harg5 arg6 harg6 arg7 harg7 arg8 harg8 arg9 arg10 arg11 arg12 arg13 arg14 v57_r0
      = (do
          fetchTab i arg3 (k0_off1 i) (k0_off1_inb i) arg5 harg5 v57_r0
          fetchedTab i arg3 (k0_off1 i) (k0_off1_inb i) arg5 harg5 v57_r0
          fetch i arg2 (k0_off2 i 0#32) (off2_0_inb i) arg6 harg6 arg9
          fetch i arg2 (k0_off2 i 112#32) (off2_112_inb i) arg7 harg7 arg10
          fetched i arg2 (k0_off2 i 0#32) (off2_0_inb i) arg6 harg6 arg9
          addPos i arg5 arg6 (k0_cond1 i) (fun u => k0_off3 u) (fun h u => k0_off3_inb i u h)
            (rowOf (0)) (fun _ => rowOf_inb (by decide)) (do
          send i arg4 (k0_off2 i 0#32) (off2_0_inb i) arg6 harg6 arg12
          pure r)) := ⟨_, rfl⟩

/-- One trip of the main loop. -/
def trip (v3 v4 : BitVec 32) (t : Fin k0_t3_loop.trips) : TProg F i Unit :=
  (do
      let r ← k0_part241 i arg2 harg2 arg3 harg3 arg4 harg4 arg5 harg5 arg6 harg6 arg7 harg7 arg8 harg8 arg9 arg10 arg11 arg12 arg13 arg14 v57_r0 v3 v4 0#32 1#32 t
      let r' ← k0_part242 i arg2 harg2 arg3 harg3 arg4 harg4 arg5 harg5 arg6 harg6 arg7 harg7 arg8 harg8 arg9 arg10 arg11 arg12 arg13 arg14 v57_r0 v3 v4 t r.1 r.2
      let r'' ← k0_part243 i arg2 harg2 arg3 harg3 arg4 harg4 arg5 harg5 arg6 harg6 arg7 harg7 arg8 harg8 arg9 arg10 arg11 arg12 arg13 arg14 v57_r0 v4 t r.1 r'.1 r'.2.1 r'.2.2
      addPos i arg5 arg6 (k0_cond4 i t) (fun u => k0_off123 t u) (fun h u => k0_off123_inb i t u h)
        (rowOf (k0_off138 t 0)) (fun _ => rowOf_inb (row138_lt t)) (do
      send i arg4 (k0_off77 i t 2#32) (k0_off77_inb i t 1) arg6 harg6 arg12
      sent i arg4 (k0_off121 i t 2#32) (k0_off121_inb i t 1) arg8 harg8 arg14
      fetch i arg2 (k0_off122 i t 2#32) (k0_off122_inb i t 1) arg8 harg8 arg11
      pure ⟨⟩))

set_option maxRecDepth 100000 in
set_option maxHeartbeats 0 in
/-- The third chunk on its way, the main loop, the last two chunks. -/
theorem part365_eq (v3 v4 : BitVec 32) :
    k0_part365 (F := F) i arg2 harg2 arg3 harg3 arg4 harg4 arg5 harg5 arg6 harg6 arg7 harg7 arg8 harg8 arg9 arg10 arg11 arg12 arg13 arg14 v57_r0 v3 v4
      = (do
          fetch i arg2 (k0_off2 i 224#32) (off2_224_inb i) arg8 harg8 arg11
          Scf.Loop.for k0_t3_loop k0_t3_ok ⟨⟩ (fun t _ => trip i arg2 harg2 arg3 harg3 arg4 harg4 arg5 harg5 arg6 harg6 arg7 harg7 arg8 harg8 arg9 arg10 arg11 arg12 arg13 arg14 v57_r0 v3 v4 t)
          fetched i arg2 (k0_off2 i 10528#32) (off2_10528_inb i) arg7 harg7 arg10
          addPos i arg5 arg7 (k0_cond5 i) (fun u => k0_off166 u) (fun h u => k0_off166_inb i u h)
            (rowOf (47)) (fun _ => rowOf_inb (by decide)) (do
          send i arg4 (k0_off2 i 10528#32) (off2_10528_inb i) arg7 harg7 arg13
          sent i arg4 (k0_off2 i 10416#32) (off2_10416_inb i) arg6 harg6 arg12
          fetched i arg2 (k0_off2 i 10640#32) (off2_10640_inb i) arg8 harg8 arg11
          addPos i arg5 arg8 (k0_cond6 i) (fun u => k0_off195 u) (fun h u => k0_off195_inb i u h)
            (rowOf (47)) (fun _ => rowOf_inb (by decide)) (do
          pure ⟨⟩))) := rfl

set_option maxRecDepth 100000 in
set_option maxHeartbeats 0 in
/-- The tile's program. -/
theorem body_eq :
    cc0__sc_body (F := F) i arg2 harg2 arg3 harg3 arg4 harg4 arg5 harg5 arg6 harg6 arg7 harg7 arg8 harg8 arg9 arg10 arg11 arg12 arg13 arg14 v57_r0
      = (do
          let r ← k0_part364 i arg2 harg2 arg3 harg3 arg4 harg4 arg5 harg5 arg6 harg6 arg7 harg7 arg8 harg8 arg9 arg10 arg11 arg12 arg13 arg14 v57_r0
          k0_part365 i arg2 harg2 arg3 harg3 arg4 harg4 arg5 harg5 arg6 harg6 arg7 harg7 arg8 harg8 arg9 arg10 arg11 arg12 arg13 arg14 v57_r0 r.1 r.2
          send i arg4 (k0_off2 i 10640#32) (off2_10640_inb i) arg8 harg8 arg14
          sent i arg4 (k0_off2 i 10528#32) (off2_10528_inb i) arg7 harg7 arg13
          sent i arg4 (k0_off2 i 10640#32) (off2_10640_inb i) arg8 harg8 arg14
          pure ⟨⟩) := rfl

end Cert.Proof
-- ==== Proof.Chunks.lean ====
/-
  The tile's program by chunk numbers. The tile's rows are 96 chunks of 112 rows, chunk `g` being half `g % 2` of its plane
  `g / 2`; every transfer and every adding is that of a chunk, and the printed offsets and conditions are those of the chunk.
-/
module

public import proofs.«01_k».proof.Proof.Copies

@[expose] public section

noncomputable section

namespace Cert.Proof

open Cert.KernelIdeal Cert.KernelIdeal.Gen
open Idealize.ShloMosaic Idealize.SL.Sem

variable {F : FTy → Type} [FloatOps F]

/-- The tile's first row of `x`, -/
def base (i : grid0.Coords) : Nat := 21504 * (i 1).val + 10752 * (i 0).val
/-- its first row of the table, -/
def c0 (i : grid0.Coords) : Nat := (96 * (i 1).val + 48 * (i 0).val) % 192
/-- the first row of its chunk `g`. -/
def chunkOff (i : grid0.Coords) (g : Nat) : Fin 2 → Nat := ![base i + 112 * g, 0]

theorem i0_lt (i : grid0.Coords) : (i 0).val < 2 := (i 0).isLt
theorem i1_lt (i : grid0.Coords) : (i 1).val < 16 := (i 1).isLt
theorem base_le (i : grid0.Coords) : base i + 10752 ≤ 344064 := by
  have h0 := i0_lt i; have h1 := i1_lt i
  unfold base; omega
theorem chunk_inb (i : grid0.Coords) {g : Nat} (hg : g < 96) : ∀ a, chunkOff i g a + S112x224.size a ≤ S344064x224.size a := by
  have h := base_le i
  intro a
  fin_cases a
  · show base i + 112 * g + 112 ≤ 344064; omega
  · show 0 + 224 ≤ 224; omega
theorem tab_inb (i : grid0.Coords) : ∀ a, (![c0 i, 0] : Fin 2 → Nat) a + S48x224.size a ≤ S192x224.size a := by
  have h0 := i0_lt i; have h1 := i1_lt i
  intro a
  fin_cases a
  · show c0 i + 48 ≤ 192; unfold c0; omega
  · show 0 + 224 ≤ 224; omega
theorem chunk_lt (t : Fin k0_t3_loop.trips) {d : Nat} (hd : d < 6) : 3 * t.val + d < 96 := by
  have h : t.val < 31 := lt_of_lt_of_eq t.isLt (by decide)
  omega

/-- Chunk `g`'s positions are down its rows: its plane is one of the first 96 of its 192. -/
def downBit (i : grid0.Coords) (g : Nat) : BitVec 1 := if c0 i + g / 2 < 96 then 1#1 else 0#1
/-- Where the table has the positions of its rows, sixteen at a time. -/
def downOff (g : Nat) (t : Fin rowLoop.trips) : Fin 2 → Nat := ![g / 2, 112 * (g % 2) + 16 * t.val]
theorem downOff_inb {g : Nat} (hg : g < 96) (t : Fin rowLoop.trips) : ∀ a, downOff g t a + S1x16.size a ≤ S48x224.size a := by
  have ht : t.val < 7 := rowLoop_trips ▸ t.isLt
  intro a
  fin_cases a
  · show g / 2 + 1 ≤ 48; omega
  · show 112 * (g % 2) + 16 * t.val + 16 ≤ 224; omega
theorem half_lt {g : Nat} (hg : g < 96) : g / 2 < 48 := by omega

/-- The adding of the positions to chunk `g`, in `b`. -/
def addC {α : Type} (i : grid0.Coords) (e : Memref sig .scVector .vmem S48x224 .f32) (b : Memref sig .scVector .vmem S112x224 .f32)
    (g : Nat) (hg : g < 96) (k : TProg F i α) : TProg F i α :=
  addPos i e b (downBit i g) (downOff g) (fun _ t => downOff_inb hg t) (rowOf (g / 2)) (fun _ => rowOf_inb (half_lt hg)) k
theorem addPos_at {α : Type} {i : grid0.Coords} {e : Memref sig .scVector .vmem S48x224 .f32} {b : Memref sig .scVector .vmem S112x224 .f32}
    {c : BitVec 1} {oe : Fin rowLoop.trips → Fin 2 → Nat} {hoe : c = 1#1 → ∀ t a, oe t a + S1x16.size a ≤ S48x224.size a}
    {oc : Nat → Fin 2 → Nat} {hoc : ¬ c = 1#1 → ∀ j a, oc j a + S1x16.size a ≤ S48x224.size a} {k : TProg F i α} {g : Nat} (hg : g < 96)
    (h : c = downBit i g) (ho : oe = downOff g) (ho' : oc = rowOf (g / 2)) :
    addPos i e b c oe hoe oc hoc k = addC i e b g hg k := by subst h; subst ho; subst ho'; rfl

theorem addPos_bind {α β : Type} {i : grid0.Coords} {e : Memref sig .scVector .vmem S48x224 .f32} {b : Memref sig .scVector .vmem S112x224 .f32}
    {c : BitVec 1} {oe : Fin rowLoop.trips → Fin 2 → Nat} {hoe : c = 1#1 → ∀ t a, oe t a + S1x16.size a ≤ S48x224.size a}
    {oc : Nat → Fin 2 → Nat} {hoc : ¬ c = 1#1 → ∀ j a, oc j a + S1x16.size a ≤ S48x224.size a} (k : TProg F i α) (f : α → TProg F i β) :
    (addPos i e b c oe hoe oc hoc k >>= f) = addPos i e b c oe hoe oc hoc (k >>= f) := by
  unfold addPos
  split <;> simp only [bind_assoc]
theorem addC_bind {α β : Type} {i : grid0.Coords} {e : Memref sig .scVector .vmem S48x224 .f32} {b : Memref sig .scVector .vmem S112x224 .f32}
    {g : Nat} {hg : g < 96} (k : TProg F i α) (f : α → TProg F i β) : (addC i e b g hg k >>= f) = addC i e b g hg (k >>= f) :=
  addPos_bind k f

def fetchC (i : grid0.Coords) (x : Memref sig .scVector .hbm S344064x224 .f32) (g : Nat) (hg : g < 96)
    (b : Memref sig .scVector .vmem S112x224 .f32) (hb : b.IsWhole) (sm : DmaSems sig S_) : TProg F i PUnit :=
  fetch i x (chunkOff i g) (chunk_inb i hg) b hb sm
theorem fetch_at {i : grid0.Coords} {x : Memref sig .scVector .hbm S344064x224 .f32} {o : Fin 2 → Nat}
    {ho : ∀ a, o a + S112x224.size a ≤ S344064x224.size a} {b : Memref sig .scVector .vmem S112x224 .f32} {hb : b.IsWhole}
    {sm : DmaSems sig S_} {g : Nat} (hg : g < 96) (h : o = chunkOff i g) :
    fetch (F := F) i x o ho b hb sm = fetchC i x g hg b hb sm := by subst h; rfl
def fetchedC (i : grid0.Coords) (x : Memref sig .scVector .hbm S344064x224 .f32) (g : Nat) (hg : g < 96)
    (b : Memref sig .scVector .vmem S112x224 .f32) (hb : b.IsWhole) (sm : DmaSems sig S_) : TProg F i PUnit :=
  fetched i x (chunkOff i g) (chunk_inb i hg) b hb sm
theorem fetched_at {i : grid0.Coords} {x : Memref sig .scVector .hbm S344064x224 .f32} {o : Fin 2 → Nat}
    {ho : ∀ a, o a + S112x224.size a ≤ S344064x224.size a} {b : Memref sig .scVector .vmem S112x224 .f32} {hb : b.IsWhole}
    {sm : DmaSems sig S_} {g : Nat} (hg : g < 96) (h : o = chunkOff i g) :
    fetched (F := F) i x o ho b hb sm = fetchedC i x g hg b hb sm := by subst h; rfl
def sendC (i : grid0.Coords) (x : Memref sig .scVector .hbm S344064x224 .f32) (g : Nat) (hg : g < 96)
    (b : Memref sig .scVector .vmem S112x224 .f32) (hb : b.IsWhole) (sm : DmaSems sig S_) : TProg F i PUnit :=
  send i x (chunkOff i g) (chunk_inb i hg) b hb sm
theorem send_at {i : grid0.Coords} {x : Memref sig .scVector .hbm S344064x224 .f32} {o : Fin 2 → Nat}
    {ho : ∀ a, o a + S112x224.size a ≤ S344064x224.size a} {b : Memref sig .scVector .vmem S112x224 .f32} {hb : b.IsWhole}
    {sm : DmaSems sig S_} {g : Nat} (hg : g < 96) (h : o = chunkOff i g) :
    send (F := F) i x o ho b hb sm = sendC i x g hg b hb sm := by subst h; rfl
def sentC (i : grid0.Coords) (x : Memref sig .scVector .hbm S344064x224 .f32) (g : Nat) (hg : g < 96)
    (b : Memref sig .scVector .vmem S112x224 .f32) (hb : b.IsWhole) (sm : DmaSems sig S_) : TProg F i PUnit :=
  sent i x (chunkOff i g) (chunk_inb i hg) b hb sm
theorem sent_at {i : grid0.Coords} {x : Memref sig .scVector .hbm S344064x224 .f32} {o : Fin 2 → Nat}
    {ho : ∀ a, o a + S112x224.size a ≤ S344064x224.size a} {b : Memref sig .scVector .vmem S112x224 .f32} {hb : b.IsWhole}
    {sm : DmaSems sig S_} {g : Nat} (hg : g < 96) (h : o = chunkOff i g) :
    sent (F := F) i x o ho b hb sm = sentC i x g hg b hb sm := by subst h; rfl

theorem fetchTab_at {i : grid0.Coords} {w : Memref sig .scVector .hbm S192x224 .f32} {o : Fin 2 → Nat}
    {ho : ∀ a, o a + S48x224.size a ≤ S192x224.size a} {e : Memref sig .scVector .vmem S48x224 .f32} {he : e.IsWhole} {sm : DmaSems sig S_}
    (h : o = ![c0 i, 0]) : fetchTab (F := F) i w o ho e he sm = fetchTab i w ![c0 i, 0] (tab_inb i) e he sm := by subst h; rfl
theorem fetchedTab_at {i : grid0.Coords} {w : Memref sig .scVector .hbm S192x224 .f32} {o : Fin 2 → Nat}
    {ho : ∀ a, o a + S48x224.size a ≤ S192x224.size a} {e : Memref sig .scVector .vmem S48x224 .f32} {he : e.IsWhole} {sm : DmaSems sig S_}
    (h : o = ![c0 i, 0]) : fetchedTab (F := F) i w o ho e he sm = fetchedTab i w ![c0 i, 0] (tab_inb i) e he sm := by subst h; rfl

/-! The printed offsets and conditions, by chunk: the grid and the trips are finite. -/

theorem off1_at (i : grid0.Coords) : k0_off1 i = ![c0 i, 0] := by
  revert i; decide +kernel
theorem off2_0_at (i : grid0.Coords) : k0_off2 i 0#32 = chunkOff i (0) := by
  revert i; decide +kernel
theorem off2_112_at (i : grid0.Coords) : k0_off2 i 112#32 = chunkOff i (1) := by
  revert i; decide +kernel
theorem off2_224_at (i : grid0.Coords) : k0_off2 i 224#32 = chunkOff i (2) := by
  revert i; decide +kernel
theorem off2_10528_at (i : grid0.Coords) : k0_off2 i 10528#32 = chunkOff i (94) := by
  revert i; decide +kernel
theorem off2_10416_at (i : grid0.Coords) : k0_off2 i 10416#32 = chunkOff i (93) := by
  revert i; decide +kernel
theorem off2_10640_at (i : grid0.Coords) : k0_off2 i 10640#32 = chunkOff i (95) := by
  revert i; decide +kernel
theorem off32_at (i : grid0.Coords) (t : Fin k0_t3_loop.trips) : k0_off32 i t = chunkOff i (3 * t.val + 1) := by
  revert i t; decide +kernel
theorem off76_at (i : grid0.Coords) (t : Fin k0_t3_loop.trips) : k0_off76 i t = chunkOff i (3 * t.val + 0) := by
  revert i t; decide +kernel
theorem off77_1_at (i : grid0.Coords) (t : Fin k0_t3_loop.trips) : k0_off77 i t 1#32 = chunkOff i (3 * t.val + 2) := by
  revert i t; decide +kernel
theorem off121_1_at (i : grid0.Coords) (t : Fin k0_t3_loop.trips) : k0_off121 i t 1#32 = chunkOff i (3 * t.val + 1) := by
  revert i t; decide +kernel
theorem off122_1_at (i : grid0.Coords) (t : Fin k0_t3_loop.trips) : k0_off122 i t 1#32 = chunkOff i (3 * t.val + 4) := by
  revert i t; decide +kernel
theorem off77_2_at (i : grid0.Coords) (t : Fin k0_t3_loop.trips) : k0_off77 i t 2#32 = chunkOff i (3 * t.val + 3) := by
  revert i t; decide +kernel
theorem off121_2_at (i : grid0.Coords) (t : Fin k0_t3_loop.trips) : k0_off121 i t 2#32 = chunkOff i (3 * t.val + 2) := by
  revert i t; decide +kernel
theorem off122_2_at (i : grid0.Coords) (t : Fin k0_t3_loop.trips) : k0_off122 i t 2#32 = chunkOff i (3 * t.val + 5) := by
  revert i t; decide +kernel
theorem cond2_at (i : grid0.Coords) (t : Fin k0_t3_loop.trips) : k0_cond2 i t = downBit i (3 * t.val + 1) := by
  revert i t; decide +kernel
theorem off33_at (t : Fin k0_t3_loop.trips) : (fun u => k0_off33 t u) = downOff (3 * t.val + 1) := by
  funext u; revert t u; decide +kernel
theorem off48_at (t : Fin k0_t3_loop.trips) : rowOf (k0_off48 t 0) = rowOf ((3 * t.val + 1) / 2) := by
  congr 1; revert t; decide +kernel
theorem cond3_at (i : grid0.Coords) (t : Fin k0_t3_loop.trips) : k0_cond3 i t = downBit i (3 * t.val + 2) := by
  revert i t; decide +kernel
theorem off78_at (t : Fin k0_t3_loop.trips) : (fun u => k0_off78 t u) = downOff (3 * t.val + 2) := by
  funext u; revert t u; decide +kernel
theorem off93_at (t : Fin k0_t3_loop.trips) : rowOf (k0_off93 t 0) = rowOf ((3 * t.val + 2) / 2) := by
  congr 1; revert t; decide +kernel
theorem cond4_at (i : grid0.Coords) (t : Fin k0_t3_loop.trips) : k0_cond4 i t = downBit i (3 * t.val + 3) := by
  revert i t; decide +kernel
theorem off123_at (t : Fin k0_t3_loop.trips) : (fun u => k0_off123 t u) = downOff (3 * t.val + 3) := by
  funext u; revert t u; decide +kernel
theorem off138_at (t : Fin k0_t3_loop.trips) : rowOf (k0_off138 t 0) = rowOf ((3 * t.val + 3) / 2) := by
  congr 1; revert t; decide +kernel
theorem cond1_at (i : grid0.Coords) : k0_cond1 i = downBit i 0 := by
  revert i; decide +kernel
theorem off3_at : (fun u => k0_off3 u) = downOff 0 := by
  funext u; revert u; decide +kernel
theorem cond5_at (i : grid0.Coords) : k0_cond5 i = downBit i 94 := by
  revert i; decide +kernel
theorem off166_at : (fun u => k0_off166 u) = downOff 94 := by
  funext u; revert u; decide +kernel
theorem cond6_at (i : grid0.Coords) : k0_cond6 i = downBit i 95 := by
  revert i; decide +kernel
theorem off195_at : (fun u => k0_off195 u) = downOff 95 := by
  funext u; revert u; decide +kernel

variable (i : grid0.Coords) (arg2 : Memref sig .scVector .hbm S344064x224 .f32) (harg2 : arg2.IsWhole)
  (arg3 : Memref sig .scVector .hbm S192x224 .f32) (harg3 : arg3.IsWhole) (arg4 : Memref sig .scVector .hbm S344064x224 .f32) (harg4 : arg4.IsWhole)
  (arg5 : Memref sig .scVector .vmem S48x224 .f32) (harg5 : arg5.IsWhole) (arg6 : Memref sig .scVector .vmem S112x224 .f32) (harg6 : arg6.IsWhole)
  (arg7 : Memref sig .scVector .vmem S112x224 .f32) (harg7 : arg7.IsWhole) (arg8 : Memref sig .scVector .vmem S112x224 .f32) (harg8 : arg8.IsWhole)
  (arg9 arg10 arg11 arg12 arg13 arg14 v57_r0 : DmaSems sig S_)

/-- One trip of the main loop: chunks `3t + 1`, `3t + 2` and `3t + 3`. -/
def tripC (t : Fin k0_t3_loop.trips) : TProg F i Unit :=
  (do
    fetchedC i arg2 (3 * t.val + 1) (chunk_lt t (by decide)) arg7 harg7 arg10
    addC i arg5 arg7 (3 * t.val + 1) (chunk_lt t (by decide)) (do
    sendC i arg4 (3 * t.val + 1) (chunk_lt t (by decide)) arg7 harg7 arg13
    sentC i arg4 (3 * t.val + 0) (chunk_lt t (by decide)) arg6 harg6 arg12
    fetchC i arg2 (3 * t.val + 3) (chunk_lt t (by decide)) arg6 harg6 arg9
    fetchedC i arg2 (3 * t.val + 2) (chunk_lt t (by decide)) arg8 harg8 arg11
    addC i arg5 arg8 (3 * t.val + 2) (chunk_lt t (by decide)) (do
    sendC i arg4 (3 * t.val + 2) (chunk_lt t (by decide)) arg8 harg8 arg14
    sentC i arg4 (3 * t.val + 1) (chunk_lt t (by decide)) arg7 harg7 arg13
    fetchC i arg2 (3 * t.val + 4) (chunk_lt t (by decide)) arg7 harg7 arg10
    fetchedC i arg2 (3 * t.val + 3) (chunk_lt t (by decide)) arg6 harg6 arg9
    addC i arg5 arg6 (3 * t.val + 3) (chunk_lt t (by decide)) (do
    sendC i arg4 (3 * t.val + 3) (chunk_lt t (by decide)) arg6 harg6 arg12
    sentC i arg4 (3 * t.val + 2) (chunk_lt t (by decide)) arg8 harg8 arg14
    fetchC i arg2 (3 * t.val + 5) (chunk_lt t (by decide)) arg8 harg8 arg11
    pure ⟨⟩))))

theorem trip_chunks (v3 v4 : BitVec 32) (t : Fin k0_t3_loop.trips) :
    trip (F := F) i arg2 harg2 arg3 harg3 arg4 harg4 arg5 harg5 arg6 harg6 arg7 harg7 arg8 harg8 arg9 arg10 arg11 arg12 arg13 arg14 v57_r0 v3 v4 t = tripC i arg2 arg4 arg5 arg6 harg6 arg7 harg7 arg8 harg8 arg9 arg10 arg11 arg12 arg13 arg14 t := by
  obtain ⟨r, h⟩ := part241_eq (F := F) i arg2 harg2 arg3 harg3 arg4 harg4 arg5 harg5 arg6 harg6 arg7 harg7 arg8 harg8 arg9 arg10 arg11 arg12 arg13 arg14 v57_r0 v3 v4 0#32 1#32 t
  obtain ⟨r', h'⟩ := part242_eq (F := F) i arg2 harg2 arg3 harg3 arg4 harg4 arg5 harg5 arg6 harg6 arg7 harg7 arg8 harg8 arg9 arg10 arg11 arg12 arg13 arg14 v57_r0 v3 v4 t r.1 r.2
  obtain ⟨r'', h''⟩ := part243_eq (F := F) i arg2 harg2 arg3 harg3 arg4 harg4 arg5 harg5 arg6 harg6 arg7 harg7 arg8 harg8 arg9 arg10 arg11 arg12 arg13 arg14 v57_r0 v4 t r.1 r'.1 r'.2.1 r'.2.2
  unfold trip tripC
  simp only [h, h', h'', bind_assoc, pure_bind, addPos_bind, addC_bind,
    fetched_at (chunk_lt t (by decide)) (off32_at i t), send_at (chunk_lt t (by decide)) (off32_at i t), sent_at (chunk_lt t (by decide)) (off76_at i t),
    fetch_at (chunk_lt t (by decide)) (off77_2_at i t), fetched_at (chunk_lt t (by decide)) (off77_1_at i t), send_at (chunk_lt t (by decide)) (off77_1_at i t),
    sent_at (chunk_lt t (by decide)) (off121_1_at i t), fetch_at (chunk_lt t (by decide)) (off122_1_at i t), fetched_at (chunk_lt t (by decide)) (off77_2_at i t),
    send_at (chunk_lt t (by decide)) (off77_2_at i t), sent_at (chunk_lt t (by decide)) (off121_2_at i t), fetch_at (chunk_lt t (by decide)) (off122_2_at i t),
    addPos_at (chunk_lt t (by decide)) (cond2_at i t) (off33_at t) (off48_at t), addPos_at (chunk_lt t (by decide)) (cond3_at i t) (off78_at t) (off93_at t),
    addPos_at (chunk_lt t (by decide)) (cond4_at i t) (off123_at t) (off138_at t)]

/-- The tile's program. -/
def tileC : TProg F i PUnit :=
  (do
    fetchTab i arg3 ![c0 i, 0] (tab_inb i) arg5 harg5 v57_r0
    fetchedTab i arg3 ![c0 i, 0] (tab_inb i) arg5 harg5 v57_r0
    fetchC i arg2 (0) (by decide) arg6 harg6 arg9
    fetchC i arg2 (1) (by decide) arg7 harg7 arg10
    fetchedC i arg2 (0) (by decide) arg6 harg6 arg9
    addC i arg5 arg6 (0) (by decide) (do
    sendC i arg4 (0) (by decide) arg6 harg6 arg12
    fetchC i arg2 (2) (by decide) arg8 harg8 arg11
    Scf.Loop.for k0_t3_loop k0_t3_ok ⟨⟩ (fun t _ => tripC i arg2 arg4 arg5 arg6 harg6 arg7 harg7 arg8 harg8 arg9 arg10 arg11 arg12 arg13 arg14 t)
    fetchedC i arg2 (94) (by decide) arg7 harg7 arg10
    addC i arg5 arg7 (94) (by decide) (do
    sendC i arg4 (94) (by decide) arg7 harg7 arg13
    sentC i arg4 (93) (by decide) arg6 harg6 arg12
    fetchedC i arg2 (95) (by decide) arg8 harg8 arg11
    addC i arg5 arg8 (95) (by decide) (do
    sendC i arg4 (95) (by decide) arg8 harg8 arg14
    sentC i arg4 (94) (by decide) arg7 harg7 arg13
    sentC i arg4 (95) (by decide) arg8 harg8 arg14
    pure ⟨⟩))))

theorem body_chunks :
    cc0__sc_body (F := F) i arg2 harg2 arg3 harg3 arg4 harg4 arg5 harg5 arg6 harg6 arg7 harg7 arg8 harg8 arg9 arg10 arg11 arg12 arg13 arg14 v57_r0 = tileC i arg2 arg3 arg4 arg5 harg5 arg6 harg6 arg7 harg7 arg8 harg8 arg9 arg10 arg11 arg12 arg13 arg14 v57_r0 := by
  obtain ⟨r, h⟩ := part364_eq (F := F) i arg2 harg2 arg3 harg3 arg4 harg4 arg5 harg5 arg6 harg6 arg7 harg7 arg8 harg8 arg9 arg10 arg11 arg12 arg13 arg14 v57_r0
  rw [body_eq]
  unfold tileC
  simp only [h, part365_eq, bind_assoc, pure_bind, addPos_bind, addC_bind, trip_chunks, fetchTab_at (off1_at i), fetchedTab_at (off1_at i),
    fetch_at (by decide) (off2_0_at i), fetch_at (by decide) (off2_112_at i), fetch_at (by decide) (off2_224_at i), fetched_at (by decide) (off2_0_at i),
    fetched_at (by decide) (off2_10528_at i), fetched_at (by decide) (off2_10640_at i), send_at (by decide) (off2_0_at i), send_at (by decide) (off2_10528_at i),
    send_at (by decide) (off2_10640_at i), sent_at (by decide) (off2_10416_at i), sent_at (by decide) (off2_10528_at i), sent_at (by decide) (off2_10640_at i),
    addPos_at (by decide) (cond1_at i) off3_at (rfl : rowOf 0 = rowOf (0 / 2)), addPos_at (by decide) (cond5_at i) off166_at (rfl : rowOf 47 = rowOf (94 / 2)),
    addPos_at (by decide) (cond6_at i) off195_at (rfl : rowOf 47 = rowOf (95 / 2))]

end Cert.Proof
-- ==== Proof.Steps.lean ====
/-
  What the tile's operations do to what the tile owns: a load, a store, a copy begun, a copy awaited, each on a memref owned
  at a function on its shape (`owns`), so that nothing below speaks of buffers.
-/
module

public import proofs.«01_k».proof.Proof.Chunks
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Memref
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev 𝒱₀ : Variants := Variants.none
abbrev UH : Type := URounds (GSem nD τ sig) ℕ
abbrev UU : Type := UH × Counters

local notation "𝕄" => MT nD τ sig (HIx 1) (Elt F) ℕ UU ℕ

/-- The tile at grid point `i`. -/
abbrev tl (d : Dev nD) (i : grid0.Coords) : Thread nD τ := V d ((i 0).castLE hcore0) ((i 1).castLE hsub0)

theorem lift_bind {E : Type → Type} {α β : Type} (e : E α) (k : α → Prog E β) : (Prog.lift e >>= k) = .op e k := rfl

variable (d : Dev nD) (i : grid0.Coords)

/-- The tile runs `p` to `Q`. -/
abbrev wpT {α : Type} (p : TProg F i α) (Q : α → sProp 𝕄) : sProp 𝕄 :=
  wp frame (wpE (defs₀ (F := F)) 𝒱₀ (tl d i) none) Set.univ p Q

theorem wpT_load {sh : Shape} {e : EltTy} {m : Memref sig .scVector .vmem sh e} {q : PosShare TreeShare} {X : sh.Idx → Elt F e}
    {r : Rect sh} {hl : m.view.LoadsAt r.toLoadRect} {α : Type} {k : (r.shape.Idx → Elt F e) → TProg F i α} {Q : α → sProp 𝕄} :
    (owns (tl d i) m q X : sProp 𝕄)
      ⊢ iprop((owns (tl d i) m q X -∗ wpT d i (k (fun y => X (r.emb y))) Q) -∗ wpT d i (Prog.lift (.load m r.toLoadRect hl) >>= k) Q) := by
  rw [lift_bind]
  unfold owns
  iintro ⟨%f, %hf, H⟩ Hk
  subst hf
  iapply (wp_load 𝒱₀ (tl d i) none Set.univ (S := m.view.set) (f := f) (View.setOn_subset_set _ _)) $$ H
  iintro H
  iapply Hk
  iexists f
  isplitr; · ipureintro; rfl
  iexact H

theorem wpT_store {sh : Shape} {e : EltTy} {m : Memref sig .scVector .vmem sh e} {X X' : sh.Idx → Elt F e}
    {r : Rect sh} {w : r.shape.Idx → Elt F e} {hx : (m.access r).Stores Finset.univ} {hm : (Finset.univ : Finset r.shape.Idx) = Finset.univ ∨ ∀ a, r.stride a = 1}
    {α : Type} {k : PUnit → TProg F i α} {Q : α → sProp 𝕄} (h1 : ∀ y, X' (r.emb y) = w y) (h2 : ∀ x, x ∉ r.set → X' x = X x) :
    (owns (tl d i) m fullShare X : sProp 𝕄)
      ⊢ iprop((owns (tl d i) m fullShare X' -∗ wpT d i (k ⟨⟩) Q) -∗ wpT d i (Prog.lift (.store m r w Finset.univ hx hm) >>= k) Q) := by
  rw [lift_bind]
  unfold owns
  iintro ⟨%f, %hf, H⟩ Hk
  subst hf
  iapply (wp_store 𝒱₀ (tl d i) none Set.univ (m := m) (r := r) (S := m.view.set) (f := f)
    (by rw [show (m.access r).setOn Finset.univ = (m.view.slice r).set from rfl]; exact View.set_slice_subset _ _)) $$ H
  iintro H
  iapply Hk
  iexists _
  isplitr
  swap; · iexact H
  ipureintro
  funext x
  by_cases hx' : x ∈ r.set
  · rw [← Rect.map_emb_univ, Finset.mem_map] at hx'
    obtain ⟨y, -, rfl⟩ := hx'
    rw [View.read_slice_write_emb r f w (Finset.mem_univ y), h1]
  · rw [View.read_slice_write_of_not_mem r f w _ (by rw [Rect.map_emb_univ]; exact hx'), h2 x hx']

/-- The copy on `sm` is in flight; it credits `N` and delivers `D`. -/
abbrev FL (sm : DmaSem sig) (N : ℕ) (D : sProp 𝕄) : sProp 𝕄 :=
  Transfers.Flight countersEmb (tl d i) (.dma sm) (none : HIx 1) N D

/-- The tile owes `O`, and has waited on nothing but `W`'s cells and its own copies'. -/
abbrev OW (O : CellTallies nD τ sig (HIx 1)) (W : Waits sig (HIx 1)) : sProp 𝕄 :=
  iprop(∃ W', ⌜∀ p ∈ W', p ∈ W ∨ p.2 = none⌝ ∗ owes (tl d i) O W')

/-- A copy begun: what the source reads will be delivered, owned at the destination, the source back. -/
theorem wpT_copy {sp sp' : Space} {sh : Shape} {e : EltTy} {src : Memref sig .scVector sp sh e} {dst : Memref sig .scVector sp' sh e} {sm : DmaSem sig}
    {hsrc : src.view.WordExact} {hdst : dst.view.WordExact} {hsem : DmaTarget.Typed (nD := nD) (p := (tl d i).2) sp (.dma sm) (.here dst)}
    {q : PosShare TreeShare} {X Y : sh.Idx → Elt F e} {α : Type} {k : PUnit → TProg F i α} {Q : α → sProp 𝕄} (h0 : 0 < sh.numel) :
    iprop(owns (tl d i) src q X ∗ owns (tl d i) dst fullShare Y ∗ semVal (tl d i, .dma sm) 0)
      ⊢ iprop((FL d i sm dst.view.dmaCredit iprop(owns (tl d i) dst fullShare X ∗ owns (tl d i) src q X) -∗ wpT d i (k ⟨⟩) Q)
          -∗ wpT d i (Prog.lift (.enqueueDma src (.here dst) (.dma sm) hsrc hdst hsem) >>= k) Q) := by
  rw [lift_bind]
  unfold owns
  iintro ⟨⟨%f, %hf, Hs⟩, ⟨%g, -, Hd⟩, Hv⟩ Hk
  subst hf
  iapply (Transfers.wp_dmaLocal countersEmb 𝒱₀ (tl d i) none (src := src) (dst := dst) (fs := f) (fd := g) (Sd := dst.view.set) (none : HIx 1)
    dst.view.dmaCredit rfl (View.dmaCredit_pos _ h0) subset_rfl) $$ [Hs Hd Hv]
  · isplitl [Hs]; · iexact Hs
    isplitl [Hd]; · iexact Hd
    iexact Hv
  iintro Hfl
  iapply Hk
  iapply (Transfers.Flight_mono countersEmb (tl d i) ?_) $$ Hfl
  iintro ⟨Hd, Hs⟩
  isplitl [Hd]
  · iexists _
    isplitr
    swap; · iexact Hd
    ipureintro
    rw [View.read_write_univ]
  · iexists f
    isplitr; · ipureintro; rfl
    iexact Hs

/-- A copy awaited. -/
theorem wpT_await {sp sp' : Space} {sh : Shape} {e : EltTy} {src : Memref sig .scVector sp sh e} {dst : Memref sig .scVector sp' sh e} {sm : DmaSem sig}
    {hsrc : src.view.WordExact} {hdst : dst.view.WordExact} {O : CellTallies nD τ sig (HIx 1)} {W : Waits sig (HIx 1)} {D : sProp 𝕄}
    {α : Type} {k : PUnit → TProg F i α} {Q : α → sProp 𝕄} :
    iprop(Transfers.MayWaits (tl d i) (none : HIx 1) O ∗ FL d i sm dst.view.dmaCredit D ∗ OW d i O W)
      ⊢ iprop((iprop(D ∗ semVal (tl d i, .dma sm) 0 ∗ OW d i O W) -∗ wpT d i (k ⟨⟩) Q)
          -∗ wpT d i (Prog.lift (.waitDma2 sm src dst hsrc hdst) >>= k) Q) := by
  rw [lift_bind]
  iintro ⟨Hmw, Hfl, %W', %hW', HO⟩ Hk
  iapply (Transfers.wp_waitLocalO countersEmb 𝒱₀ (tl d i) none (srcw := src) (dstw := dst) (none : HIx 1) rfl) $$ [Hfl HO Hmw]
  · isplitl [Hfl]; · iexact Hfl
    isplitl [HO]; · iexact HO
    iapply (Transfers.MayWaits.elim (SemLoc.dma sm)) $$ Hmw
  iintro ⟨HD, Hv, HO⟩
  iapply Hk
  isplitl [HD]; · iexact HD
  isplitl [Hv]; · iexact Hv
  iexists _
  isplitr
  swap; · iexact HO
  ipureintro
  intro p hp
  rcases Finset.mem_insert.mp hp with hp | hp
  · exact .inr (hp ▸ rfl)
  · exact hW' p hp

end Cert.Proof
-- ==== Proof.Adding.lean ====
/-
  What the adding of the positions leaves: every element of the chunk plus its position. The stores go through the chunk in
  one order, row by row and sixteen columns at a time, whichever branch runs; so the state between two stores is "the first
  `n` groups of sixteen are done" (`part`), and one lemma about one group is all there is to say about the stores.
-/
module

public import proofs.«01_k».proof.Proof.Steps
public import Idealize.ShloMosaic.Lib.ValueIdxCore

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A chunk's, and the table's, contents. -/
abbrev CV (F : FTy → Type) := S112x224.Idx → Elt F .f32
abbrev EV (F : FTy → Type) := S48x224.Idx → Elt F .f32

/-- The number of an element's group of sixteen. -/
def grp (x : S112x224.Idx) : Nat := 14 * (x 0).val + (x 1).val / 16

/-- `X` with the first `n` groups' positions `E` added. -/
def part (X E : CV F) (n : Nat) : CV F := fun x => if grp x < n then FloatOps.addf (X x) (E x) else X x

theorem part_zero (X E : CV F) : part X E 0 = X := funext fun x => if_neg (Nat.not_lt_zero _)
theorem x0_lt (x : S112x224.Idx) : (x 0).val < 112 := (x 0).isLt
theorem x1_lt (x : S112x224.Idx) : (x 1).val < 224 := (x 1).isLt
theorem part_all (X E : CV F) : part X E 1568 = fun x => FloatOps.addf (X x) (E x) :=
  funext fun x => if_pos (by have := x0_lt x; have := x1_lt x; unfold grp; omega)

variable (d : Dev nD) (i : grid0.Coords)

/-- The sixteen lanes of a group, and the group's elements. -/
theorem unit_emb_val {sh : Shape} (o z : Fin sh.rank → Nat) (h : ∀ a, o a + z a ≤ sh.size a) (y : (Rect.unit (s := sh) o z h).shape.Idx) (a : Fin sh.rank) :
    ((Rect.unit (s := sh) o z h).emb y a).val = o a + (y a).val := by
  show o a + 1 * (y a).val = _; omega

theorem wpT_pure {α : Type} {x : α} {Q : α → sProp 𝕄} : Q x ⊢ wpT d i (pure x) Q := by
  unfold wpT
  rw [wp_pure]
  iintro H
  imodintro
  iexact H

/-- One group: from `n` groups done to `n + 1`. -/
theorem addAt_wp (b : Memref sig .scVector .vmem S112x224 .f32) (o : Fin 2 → Nat) (ho : ∀ a, o a + S1x16.size a ≤ S112x224.size a)
    (p : FVec F S16 .f32) (X E : CV F) (n : Nat) (hn : o = ![n / 14, 16 * (n % 14)])
    (hp : ∀ (x : S112x224.Idx) (l : S16.Idx), (x 0).val = n / 14 → (x 1).val = 16 * (n % 14) + (l 0).val → p l = E x) :
    (owns (tl d i) b fullShare (part X E n) : sProp 𝕄)
      ⊢ wpT d i (addAt i b o ho p) (fun _ => owns (tl d i) b fullShare (part X E (n + 1))) := by
  subst hn
  unfold addAt
  iintro H
  iapply (wpT_load d i) $$ H
  iintro H
  iapply (wpT_load d i) $$ H
  iintro H
  rw [← bind_pure (Prog.lift _)]
  iapply (wpT_store d i (X' := part X E (n + 1)) ?_ ?_) $$ H
  · intro y
    have e0 : ((Rect.unit (s := S112x224) ![n / 14, 16 * (n % 14)] S1x16.size ho).emb y 0).val = n / 14 := by
      have h := unit_emb_val (sh := S112x224) ![n / 14, 16 * (n % 14)] S1x16.size ho y 0
      have h2 : (y 0).val < 1 := (y 0).isLt
      rw [h]; show n / 14 + (y 0).val = _; omega
    have e1 : ((Rect.unit (s := S112x224) ![n / 14, 16 * (n % 14)] S1x16.size ho).emb y 1).val = 16 * (n % 14) + (y 1).val :=
      unit_emb_val (sh := S112x224) ![n / 14, 16 * (n % 14)] S1x16.size ho y 1
    have h2 : (y 1).val < 16 := (y 1).isLt
    generalize hz : (Rect.unit (s := S112x224) ![n / 14, 16 * (n % 14)] S1x16.size ho).emb y = z at e0 e1
    have hg : grp z = n := by unfold grp; rw [e0, e1]; omega
    have hl : part X E (n + 1) z = FloatOps.addf (X z) (E z) := if_pos (by omega)
    refine hl.trans ?_
    have hj : part X E n z = X z := if_neg (by omega)
    symm
    refine (shapeCast_addUnit_apply ![16] _ _ y).trans ?_
    refine congrArg₂ FloatOps.addf ?_ (hp z _ e0 e1)
    refine (shapeCast_dropUnit_apply ![16] _ _ _).trans ?_
    rw [← hj, ← hz]
    refine congrArg (fun y' => part X E n ((Rect.unit (s := S112x224) ![n / 14, 16 * (n % 14)] S1x16.size ho).emb y')) ?_
    funext a
    refine Fin.cases ?_ (fun a => rfl) a
    exact Fin.ext (by have : (y 0).val < 1 := (y 0).isLt; show 0 = (y 0).val; omega)
  · intro x hx
    have hne : grp x ≠ n := by
      intro hg
      apply hx
      rw [Rect.mem_set_unit]
      have h1 := x1_lt x
      unfold grp at hg
      intro a
      fin_cases a
      · show n / 14 ≤ (x 0).val ∧ (x 0).val < n / 14 + 1; omega
      · show 16 * (n % 14) ≤ (x 1).val ∧ (x 1).val < 16 * (n % 14) + 16; omega
    unfold part
    by_cases h : grp x < n
    · rw [if_pos h, if_pos (by omega)]
    · rw [if_neg h, if_neg (by omega)]
  iintro H
  iapply (wpT_pure d i)
  iexact H

/-- One after another. -/
theorem forUp_wp (f : Nat → TProg F i Unit) (I : Nat → sProp 𝕄) :
    ∀ n s, (∀ k, s ≤ k → k < s + n → I k ⊢ wpT d i (f k) (fun _ => I (k + 1))) → I s ⊢ wpT d i (forUp f s n) (fun _ => I (s + n))
  | 0, s, _ => wpT_pure d i
  | n + 1, s, h => by
    show I s ⊢ wpT d i (f s >>= fun _ => forUp f (s + 1) n) _
    unfold wpT
    rw [wp_bind]
    refine (h s le_rfl (by omega)).trans (wp_mono _ _ _ fun _ => ?_)
    have e : s + (n + 1) = s + 1 + n := by omega
    rw [e]
    exact forUp_wp f I n (s + 1) (fun k hk hk' => h k (by omega) (by omega))

/-- An element of the tile's table by its numbers. -/
def at48 (r c : Nat) : S48x224.Idx := ValueIdx.ix2 (n0 := 48) (n1 := 224) ⟨r % 48, Nat.mod_lt _ (by decide)⟩ ⟨c % 224, Nat.mod_lt _ (by decide)⟩

theorem eq_at48 (z : S48x224.Idx) (r c : Nat) (h0 : (z 0).val = r) (h1 : (z 1).val = c) : z = at48 r c := by
  have b0 : (z 0).val < 48 := (z 0).isLt
  have b1 : (z 1).val < 224 := (z 1).isLt
  funext a
  match a with
  | ⟨0, _⟩ => exact Fin.ext (show (z 0).val = r % 48 by omega)
  | ⟨1, _⟩ => exact Fin.ext (show (z 1).val = c % 224 by omega)

/-- The positions of chunk `g`: down its rows, or along its columns. -/
def posOf (g : Nat) (E : EV F) : CV F :=
  fun x => if c0 i + g / 2 < 96 then E (at48 (g / 2) (112 * (g % 2) + (x 0).val)) else E (at48 (g / 2) (x 1).val)

/-- A row of sixteen, as sixteen lanes. -/
theorem cast16_apply {α : Type} (v : S1x16.Idx → α) (j : S16.Idx) :
    shapeCast S16 v shapeCasts_S1x16_S16 j = v (Fin.cons ⟨0, Nat.one_pos⟩ j) :=
  shapeCast_dropUnit_apply ![16] v shapeCasts_S1x16_S16 j

theorem lane_apply (v : FVec F S16 .f32) (k : Nat) (l j : S16.Idx) (hj : (j 0).val = k % 16) : lane v k l = v j := by
  unfold lane broadcast extractAt extractStridedSlice
  refine congrArg v (funext fun a => Fin.ext ?_)
  rw [Subsingleton.elim a 0, hj]
  rfl

/-- What sixteen elements of the table read. -/
theorem row16 (E : EV F) (o : Fin 2 → Nat) (ho : ∀ a, o a + S1x16.size a ≤ S48x224.size a) (j : S16.Idx) :
    shapeCast S16 (fun y => E ((Rect.unit (s := S48x224) o S1x16.size ho).emb y)) shapeCasts_S1x16_S16 j = E (at48 (o 0) (o 1 + (j 0).val)) := by
  rw [cast16_apply]
  refine congrArg E (eq_at48 _ _ _ ?_ ?_)
  · exact unit_emb_val (sh := S48x224) o S1x16.size ho _ 0
  · exact unit_emb_val (sh := S48x224) o S1x16.size ho _ 1

variable {d i}

theorem readAt16_wp {e : Memref sig .scVector .vmem S48x224 .f32} {o : Fin 2 → Nat} {ho : ∀ a, o a + S1x16.size a ≤ S48x224.size a}
    {q : PosShare TreeShare} {E : EV F} :
    (owns (tl d i) e q E : sProp 𝕄)
      ⊢ wpT d i (readAt16 i e o ho) (fun v => iprop(⌜∀ j, v j = E (at48 (o 0) (o 1 + (j 0).val))⌝ ∗ owns (tl d i) e q E)) := by
  unfold readAt16
  iintro H
  iapply (wpT_load d i) $$ H
  iintro H
  iapply (wpT_pure d i)
  isplitr
  · ipureintro; exact row16 E o ho
  · iexact H

theorem readUp_wp {α : Type} (f : Nat → TProg F i α) (P : Nat → α → Prop) (R : sProp 𝕄)
    (hf : ∀ k, R ⊢ wpT d i (f k) (fun v => iprop(⌜P k v⌝ ∗ R))) :
    ∀ n s g, (∀ k < s, P k (g k)) → R ⊢ wpT d i (readUp f s n g) (fun p => iprop(⌜∀ k < s + n, P k (p k)⌝ ∗ R))
  | 0, s, g, h => by
    refine BIBase.Entails.trans ?_ (wpT_pure d i)
    iintro H
    isplitr
    · ipureintro; exact h
    · iexact H
  | n + 1, s, g, h => by
    show R ⊢ wpT d i (f s >>= fun v => readUp f (s + 1) n (fun k => if k = s then v else g k)) _
    unfold wpT
    rw [wp_bind]
    refine (hf s).trans (wp_mono _ _ _ fun v => ?_)
    iintro ⟨%hv, H⟩
    have e : s + (n + 1) = s + 1 + n := by omega
    rw [e]
    iapply (readUp_wp f P R hf n (s + 1) (fun k => if k = s then v else g k) (fun k hk => by
      by_cases h' : k = s
      · simp only [h', if_pos]; exact hv
      · simp only [if_neg h']; exact h k (by omega)))
    iexact H

theorem rowBody_wp {e : Memref sig .scVector .vmem S48x224 .f32} {b : Memref sig .scVector .vmem S112x224 .f32} {q : PosShare TreeShare}
    {g : Nat} (hg : g < 96) (t : Fin rowLoop.trips) {E : EV F} {X : CV F} (hd : c0 i + g / 2 < 96) :
    iprop(owns (tl d i) e q E ∗ owns (tl d i) b fullShare (part X (posOf i g E) (224 * t.val)) : sProp 𝕄)
      ⊢ wpT d i (rowBody i e b (downOff g t) (downOff_inb hg t) t)
          (fun _ => iprop(owns (tl d i) e q E ∗ owns (tl d i) b fullShare (part X (posOf i g E) (224 * (t.val + 1))))) := by
  unfold rowBody
  iintro ⟨He, Hb⟩
  iapply (wpT_load d i) $$ He
  iintro He
  iapply (wp_frame_l) $$ [He Hb]
  isplitl [He]; · iexact He
  have := forUp_wp (d := d) (i := i) (F := F) (fun n => addAt i b (rowOff t n) (rowOff_inb t n) (lane (shapeCast S16
    (fun y => E ((Rect.unit (s := S48x224) (downOff g t) S1x16.size (downOff_inb hg t)).emb y)) shapeCasts_S1x16_S16) (n / 14)))
    (fun k => owns (tl d i) b fullShare (part X (posOf i g E) (224 * t.val + k))) 224 0 ?_
  · iapply this; iexact Hb
  intro k _ hk
  have ht : t.val < 7 := rowLoop_trips ▸ t.isLt
  refine addAt_wp d i b _ _ _ X (posOf i g E) (224 * t.val + k) ?_ ?_
  · rw [rowOff_eq]
    have e1 : 16 * t.val + k / 14 % 16 = (224 * t.val + k) / 14 := by omega
    have e2 : k % 14 = (224 * t.val + k) % 14 := by omega
    rw [e1, e2]
  · intro x l h0 h1
    have hk' : k / 14 % 16 = k / 14 := by omega
    rw [lane_apply _ (k / 14) l (ValueIdx.ix1 (n := 16) ⟨k / 14 % 16, by omega⟩) rfl, row16]
    unfold posOf
    rw [if_pos hd]
    refine congrArg E ?_
    show at48 (g / 2) (112 * (g % 2) + 16 * t.val + k / 14 % 16) = _
    congr 1
    omega

theorem colBody_wp {b : Memref sig .scVector .vmem S112x224 .f32}
    {g : Nat} (t : Fin colLoop.trips) {E : EV F} {X : CV F} (hd : ¬ c0 i + g / 2 < 96) {p : Nat → FVec F S16 .f32}
    (hp : ∀ k < 14, ∀ j, p k j = E (at48 (rowOf (g / 2) k 0) (rowOf (g / 2) k 1 + (j 0).val))) :
    (owns (tl d i) b fullShare (part X (posOf i g E) (14 * t.val)) : sProp 𝕄)
      ⊢ wpT d i (colBody i b p t) (fun _ => owns (tl d i) b fullShare (part X (posOf i g E) (14 * (t.val + 1)))) := by
  unfold colBody
  refine forUp_wp (d := d) (i := i) (F := F) _ (fun k => owns (tl d i) b fullShare (part X (posOf i g E) (14 * t.val + k))) 14 0 ?_
  intro k _ hk
  refine addAt_wp d i b _ _ _ X (posOf i g E) (14 * t.val + k) ?_ ?_
  · rw [colOff_eq]
    have e1 : t.val = (14 * t.val + k) / 14 := by omega
    have e2 : k % 14 = (14 * t.val + k) % 14 := by omega
    rw [e2, ← e1]
  · intro x l h0 h1
    rw [hp k (by omega)]
    unfold posOf
    rw [if_neg hd]
    refine congrArg E ?_
    show at48 (g / 2) (16 * (k % 14) + (l 0).val) = _
    congr 1
    omega

theorem wpT_for (l : Scf.Loop 32) (hok : l.OK) (body : Fin l.trips → PUnit → TProg F i PUnit) (I : Nat → sProp 𝕄)
    (hbody : ∀ k, I k.val ⊢ wpT d i (body k ⟨⟩) (fun _ => I (k.val + 1))) {α : Type} {k : TProg F i α} {Q : α → sProp 𝕄} :
    I 0 ⊢ iprop((I l.trips -∗ wpT d i k Q) -∗ wpT d i (Scf.Loop.for l hok ⟨⟩ body >>= fun _ => k) Q) := by
  have h := Scf.wp_for_bind frame (wpE (defs₀ (F := F)) 𝒱₀ (tl d i) none) Set.univ l.lb l.ub l.st hok (⟨⟩ : PUnit) body
    (fun n _ => I n) (fun k _ => hbody k) (kk := fun _ => k) (Q := Q)
  refine h.trans (wand_mono ?_ .rfl)
  iintro H %acc HI
  iapply H
  iexact HI

set_option maxRecDepth 8000 in
/-- The adding of the positions to chunk `g`. -/
theorem addC_wp {e : Memref sig .scVector .vmem S48x224 .f32} {b : Memref sig .scVector .vmem S112x224 .f32} {q : PosShare TreeShare}
    {g : Nat} {hg : g < 96} {E : EV F} {X : CV F} {α : Type} {k : TProg F i α} {Q : α → sProp 𝕄} :
    iprop(owns (tl d i) e q E ∗ owns (tl d i) b fullShare X : sProp 𝕄)
      ⊢ iprop((iprop(owns (tl d i) e q E ∗ owns (tl d i) b fullShare (fun x => FloatOps.addf (X x) (posOf i g E x))) -∗ wpT d i k Q)
          -∗ wpT d i (addC i e b g hg k) Q) := by
  rw [← part_all, ← part_zero X (posOf i g E)]
  unfold addC addPos
  by_cases hd : c0 i + g / 2 < 96
  · have h : downBit i g = 1#1 := if_pos hd
    rw [dif_pos h, part_zero]
    have hb := fun t => rowBody_wp (d := d) (e := e) (b := b) (q := q) hg t (E := E) (X := X) hd
    have hl := wpT_for (d := d) (F := F) (i := i) rowLoop rowLoop_ok (fun t _ => rowBody i e b (downOff g t) (downOff_inb hg t) t)
      (fun n => iprop(owns (tl d i) e q E ∗ owns (tl d i) b fullShare (part X (posOf i g E) (224 * n)))) (fun t => by
        have h := hb t
        refine Eq.mp ?_ h
        congr 1) (k := k) (Q := Q)
    iintro ⟨He, Hb⟩ Hk
    iapply hl $$ [He Hb]
    · isplitl [He]; · iexact He
      rw [Nat.mul_zero, part_zero]; iexact Hb
    rw [rowLoop_trips]
    iexact Hk
  · have h : ¬ downBit i g = 1#1 := by unfold downBit; rw [if_neg hd]; decide
    rw [dif_neg h, part_zero]
    iintro ⟨He, Hb⟩ Hk
    unfold wpT
    rw [wp_bind]
    iapply (wp_wand frame _ _) $$ [He]
    · iapply (readAt16_wp (d := d) (q := q) (E := E)); iexact He
    iintro %p0 ⟨%h0, He⟩
    rw [wp_bind]
    iapply (wp_wand frame _ _) $$ [He]
    · iapply (readUp_wp (d := d) (i := i) _ (fun k v => ∀ j, v j = E (at48 (rowOf (g / 2) k 0) (rowOf (g / 2) k 1 + (j 0).val)))
        (owns (tl d i) e q E) (fun k => readAt16_wp) 13 1 (fun _ => p0) (fun k hk => by
          have : k = 0 := by omega
          subst this; exact h0))
      iexact He
    iintro %p ⟨%hp, He⟩
    iapply (wpT_for (d := d) (F := F) (i := i) (k := k) (Q := Q) colLoop colLoop_ok (fun t _ => colBody i b p t)
      (fun n => owns (tl d i) b fullShare (part X (posOf i g E) (14 * n))) (fun t => colBody_wp (d := d) (b := b) t (E := E) (X := X) hd hp)) $$ [Hb]
    · rw [Nat.mul_zero, part_zero]; iexact Hb
    rw [colLoop_trips]
    iintro Hb
    iapply Hk
    isplitl [He]; · iexact He
    iexact Hb

end Cert.Proof
-- ==== Proof.Tile.lean ====
/-
  The tile's run. Chunk `g` of `x` is fetched into one of three buffers, its positions are added, and the buffer goes out to
  chunk `g` of the output; two fetches are in flight at any time and every chunk is done in order. So what the tile owns is
  two runs of chunks of `x` (not yet fetched, back again), two of the output (not yet written, written) and what is in
  flight; `J n` says it all before the trip that waits for chunk `n + 1`.
-/
module

public import proofs.«01_k».proof.Proof.Adding
public import Idealize.SL.BI.BigOpNat

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Chunk `g` of the tile's rows, -/
def chunk (i : grid0.Coords) (x : Memref sig .scVector .hbm S344064x224 .f32) (g : ℕ) : Memref sig .scVector .hbm S112x224 .f32 :=
  x.slice (Rect.unit (s := S344064x224) (chunkOff i (g % 96)) S112x224.size (chunk_inb i (Nat.mod_lt g (by decide)))) (fun _ => rfl)
/-- and the tile's rows of the table. -/
def tabOf (i : grid0.Coords) (w : Memref sig .scVector .hbm S192x224 .f32) : Memref sig .scVector .hbm S48x224 .f32 :=
  w.slice (Rect.unit (s := S192x224) ![c0 i, 0] S48x224.size (tab_inb i)) (fun _ => rfl)

variable {i : grid0.Coords} {x y : Memref sig .scVector .hbm S344064x224 .f32} {w : Memref sig .scVector .hbm S192x224 .f32}

theorem fetchC_eq {g : ℕ} (hg : g < 96) (b : Memref sig .scVector .vmem S112x224 .f32) (hb : b.IsWhole) (sm : DmaSems sig S_) :
    fetchC (F := F) i x g hg b hb sm = Prog.lift (.enqueueDma (chunk i x g) (.here b) (.dma sm.sem) (View.wordExact_bits rfl) hb.wordExact ⟨Or.inl rfl, trivial⟩) := by
  have h : ∀ g' (hg' : g' < 96), g' = g → fetchC (F := F) i x g hg b hb sm
      = Prog.lift (.enqueueDma (x.slice (Rect.unit (s := S344064x224) (chunkOff i g') S112x224.size (chunk_inb i hg')) (fun _ => rfl)) (.here b) (.dma sm.sem)
          (View.wordExact_bits rfl) hb.wordExact ⟨Or.inl rfl, trivial⟩) := by rintro _ _ rfl; rfl
  exact h _ (Nat.mod_lt g (by decide)) (Nat.mod_eq_of_lt hg)
theorem fetchedC_eq {g : ℕ} (hg : g < 96) (b : Memref sig .scVector .vmem S112x224 .f32) (hb : b.IsWhole) (sm : DmaSems sig S_) :
    fetchedC (F := F) i x g hg b hb sm = Prog.lift (.waitDma2 sm.sem (chunk i x g) b (View.wordExact_bits rfl) hb.wordExact) := by
  have h : ∀ g' (hg' : g' < 96), g' = g → fetchedC (F := F) i x g hg b hb sm
      = Prog.lift (.waitDma2 sm.sem (x.slice (Rect.unit (s := S344064x224) (chunkOff i g') S112x224.size (chunk_inb i hg')) (fun _ => rfl)) b
          (View.wordExact_bits rfl) hb.wordExact) := by rintro _ _ rfl; rfl
  exact h _ (Nat.mod_lt g (by decide)) (Nat.mod_eq_of_lt hg)
theorem sendC_eq {g : ℕ} (hg : g < 96) (b : Memref sig .scVector .vmem S112x224 .f32) (hb : b.IsWhole) (sm : DmaSems sig S_) :
    sendC (F := F) i y g hg b hb sm = Prog.lift (.enqueueDma b (.here (chunk i y g)) (.dma sm.sem) hb.wordExact (View.wordExact_bits rfl) ⟨Or.inl rfl, trivial⟩) := by
  have h : ∀ g' (hg' : g' < 96), g' = g → sendC (F := F) i y g hg b hb sm
      = Prog.lift (.enqueueDma b (.here (y.slice (Rect.unit (s := S344064x224) (chunkOff i g') S112x224.size (chunk_inb i hg')) (fun _ => rfl))) (.dma sm.sem)
          hb.wordExact (View.wordExact_bits rfl) ⟨Or.inl rfl, trivial⟩) := by rintro _ _ rfl; rfl
  exact h _ (Nat.mod_lt g (by decide)) (Nat.mod_eq_of_lt hg)
theorem sentC_eq {g : ℕ} (hg : g < 96) (b : Memref sig .scVector .vmem S112x224 .f32) (hb : b.IsWhole) (sm : DmaSems sig S_) :
    sentC (F := F) i y g hg b hb sm = Prog.lift (.waitDma2 sm.sem b (chunk i y g) hb.wordExact (View.wordExact_bits rfl)) := by
  have h : ∀ g' (hg' : g' < 96), g' = g → sentC (F := F) i y g hg b hb sm
      = Prog.lift (.waitDma2 sm.sem b (y.slice (Rect.unit (s := S344064x224) (chunkOff i g') S112x224.size (chunk_inb i hg')) (fun _ => rfl))
          hb.wordExact (View.wordExact_bits rfl)) := by rintro _ _ rfl; rfl
  exact h _ (Nat.mod_lt g (by decide)) (Nat.mod_eq_of_lt hg)

/-- Chunks `n` to 95, and the chunks below `n`. -/
abbrev fromN (P : ℕ → sProp 𝕄) (n : ℕ) : sProp 𝕄 := bigSep (Finset.Ico n 96) P
abbrev belowN (P : ℕ → sProp 𝕄) (n : ℕ) : sProp 𝕄 := bigSep (Finset.range n) P

variable (d : Dev nD) (i) (x y) (q : PosShare TreeShare) (XV YO : ℕ → CV F) (E : EV F)

/-- The sum the tile leaves in chunk `g`. -/
abbrev YV (g : ℕ) : CV F := fun z => FloatOps.addf (XV g z) (posOf i g E z)

/-- Chunk `g` of `x`, chunk `g` of the output before and after. -/
abbrev xP (g : ℕ) : sProp 𝕄 := owns (tl d i) (chunk i x g) q (XV g)
abbrev yO (g : ℕ) : sProp 𝕄 := owns (tl d i) (chunk i y g) fullShare (YO g)
abbrev yN (g : ℕ) : sProp 𝕄 := owns (tl d i) (chunk i y g) fullShare (YV i XV E g)

/-- Chunk `g` on its way in, into `b`, and on its way out, from `b`. -/
abbrev GI (g : ℕ) (b : Memref sig .scVector .vmem S112x224 .f32) (sm : DmaSems sig S_) : sProp 𝕄 :=
  FL d i sm.sem b.view.dmaCredit iprop(owns (tl d i) b fullShare (XV g) ∗ xP i x d q XV g)
abbrev SO (g : ℕ) (b : Memref sig .scVector .vmem S112x224 .f32) (sm : DmaSems sig S_) : sProp 𝕄 :=
  FL d i sm.sem (chunk i y g).view.dmaCredit iprop(yN i y d XV E g ∗ owns (tl d i) b fullShare (YV i XV E g))

/-- The tile's semaphore `sm` is at zero. -/
abbrev S0 (sm : DmaSems sig S_) : sProp 𝕄 := semVal (tl d i, .dma sm.sem) 0
abbrev MW (O : CellTallies nD τ sig (HIx 1)) : sProp 𝕄 := Transfers.MayWaits (tl d i) (none : HIx 1) O

variable {d i x y q XV YO E}
variable {O : CellTallies nD τ sig (HIx 1)} {W : Waits sig (HIx 1)}

theorem fetchC_wp {g : ℕ} {hg : g < 96} {b : Memref sig .scVector .vmem S112x224 .f32} {hb : b.IsWhole} {sm : DmaSems sig S_} {B : CV F} {α : Type} {k : TProg F i α} {Q : α → sProp 𝕄} :
    iprop(owns (tl d i) b fullShare B ∗ fromN (xP i x d q XV) g ∗ S0 i d sm)
      ⊢ iprop((iprop(GI i x d q XV g b sm ∗ fromN (xP i x d q XV) (g + 1)) -∗ wpT d i k Q) -∗ wpT d i (fetchC i x g hg b hb sm >>= fun _ => k) Q) := by
  rw [fetchC_eq, fromN, bigSep_Ico_succ_bot hg]
  iintro ⟨Hb, ⟨Hx, Hr⟩, Hs⟩ Hk
  iapply (wpT_copy d i (by decide)) $$ [Hb Hx Hs]
  · isplitl [Hx]; · iexact Hx
    isplitl [Hb]; · iexact Hb
    iexact Hs
  iintro HF
  iapply Hk
  isplitl [HF]; · iexact HF
  iexact Hr

theorem fetchedC_wp {g : ℕ} {hg : g < 96} {b : Memref sig .scVector .vmem S112x224 .f32} {hb : b.IsWhole} {sm : DmaSems sig S_} {α : Type} {k : TProg F i α} {Q : α → sProp 𝕄} :
    iprop(MW i d O ∗ GI i x d q XV g b sm ∗ belowN (xP i x d q XV) g ∗ OW d i O W)
      ⊢ iprop((iprop(owns (tl d i) b fullShare (XV g) ∗ belowN (xP i x d q XV) (g + 1) ∗ S0 i d sm ∗ OW d i O W) -∗ wpT d i k Q)
          -∗ wpT d i (fetchedC i x g hg b hb sm >>= fun _ => k) Q) := by
  rw [fetchedC_eq, belowN, belowN, bigSep_range_succ]
  iintro ⟨Hmw, HF, Hr, HO⟩ Hk
  iapply (wpT_await d i) $$ [Hmw HF HO]
  · isplitl [Hmw]; · iexact Hmw
    isplitl [HF]; · iexact HF
    iexact HO
  iintro ⟨⟨Hb, Hx⟩, Hs, HO⟩
  iapply Hk
  isplitl [Hb]; · iexact Hb
  isplitl [Hx Hr]
  · isplitl [Hx]; · iexact Hx
    iexact Hr
  isplitl [Hs]; · iexact Hs
  iexact HO

theorem addSend_wp {g : ℕ} {hg hg' : g < 96} {e : Memref sig .scVector .vmem S48x224 .f32} {b : Memref sig .scVector .vmem S112x224 .f32} {hb : b.IsWhole}
    {sm : DmaSems sig S_} {qe : PosShare TreeShare} {α : Type} {k : TProg F i α} {Q : α → sProp 𝕄} :
    iprop(owns (tl d i) e qe E ∗ owns (tl d i) b fullShare (XV g) ∗ fromN (yO i y d YO) g ∗ S0 i d sm)
      ⊢ iprop((iprop(owns (tl d i) e qe E ∗ SO i y d XV E g b sm ∗ fromN (yO i y d YO) (g + 1)) -∗ wpT d i k Q)
          -∗ wpT d i (addC i e b g hg (sendC i y g hg' b hb sm >>= fun _ => k)) Q) := by
  rw [sendC_eq, fromN, bigSep_Ico_succ_bot hg]
  iintro ⟨He, Hb, ⟨Hy, Hr⟩, Hs⟩ Hk
  iapply (addC_wp (d := d) (e := e) (E := E) (q := qe)) $$ [He Hb]
  · isplitl [He]; · iexact He
    iexact Hb
  iintro ⟨He, Hb⟩
  iapply (wpT_copy d i (by decide)) $$ [Hb Hy Hs]
  · isplitl [Hb]; · iexact Hb
    isplitl [Hy]; · iexact Hy
    iexact Hs
  iintro HF
  iapply Hk
  isplitl [He]; · iexact He
  isplitl [HF]; · iexact HF
  iexact Hr

theorem sentC_wp {g : ℕ} {hg : g < 96} {b : Memref sig .scVector .vmem S112x224 .f32} {hb : b.IsWhole} {sm : DmaSems sig S_} {α : Type} {k : TProg F i α} {Q : α → sProp 𝕄} :
    iprop(MW i d O ∗ SO i y d XV E g b sm ∗ belowN (yN i y d XV E) g ∗ OW d i O W)
      ⊢ iprop((iprop(owns (tl d i) b fullShare (YV i XV E g) ∗ belowN (yN i y d XV E) (g + 1) ∗ S0 i d sm ∗ OW d i O W) -∗ wpT d i k Q)
          -∗ wpT d i (sentC i y g hg b hb sm >>= fun _ => k) Q) := by
  rw [sentC_eq, belowN, belowN, bigSep_range_succ]
  iintro ⟨Hmw, HF, Hr, HO⟩ Hk
  iapply (wpT_await d i) $$ [Hmw HF HO]
  · isplitl [Hmw]; · iexact Hmw
    isplitl [HF]; · iexact HF
    iexact HO
  iintro ⟨⟨Hy, Hb⟩, Hs, HO⟩
  iapply Hk
  isplitl [Hb]; · iexact Hb
  isplitl [Hy Hr]
  · isplitl [Hy]; · iexact Hy
    iexact Hr
  isplitl [Hs]; · iexact Hs
  iexact HO

section Run

variable (arg5 : Memref sig .scVector .vmem S48x224 .f32) (harg5 : arg5.IsWhole) (arg6 : Memref sig .scVector .vmem S112x224 .f32) (harg6 : arg6.IsWhole)
  (arg7 : Memref sig .scVector .vmem S112x224 .f32) (harg7 : arg7.IsWhole) (arg8 : Memref sig .scVector .vmem S112x224 .f32) (harg8 : arg8.IsWhole)
  (arg9 arg10 arg11 arg12 arg13 arg14 v57_r0 : DmaSems sig S_)
variable (d i x y q XV YO E)

/-- Before chunk `n + 1` is awaited: chunks `n + 1` and `n + 2` on their way in, chunk `n` on its way out. -/
def J (O : CellTallies nD τ sig (HIx 1)) (W : Waits sig (HIx 1)) (n : ℕ) : sProp 𝕄 :=
  iprop(MW i d O ∗ owns (tl d i) arg5 fullShare E ∗ fromN (xP i x d q XV) (n + 3) ∗ belowN (xP i x d q XV) (n + 1) ∗ fromN (yO i y d YO) (n + 1)
    ∗ belowN (yN i y d XV E) n ∗ GI i x d q XV (n + 1) arg7 arg10 ∗ GI i x d q XV (n + 2) arg8 arg11 ∗ SO i y d XV E n arg6 arg12
    ∗ S0 i d arg9 ∗ S0 i d arg13 ∗ S0 i d arg14 ∗ OW d i O W)

variable {d i x y q XV YO E}

theorem trip_wp (t : Fin k0_t3_loop.trips) :
    J i x y d q XV YO E arg5 arg6 arg7 arg8 arg9 arg10 arg11 arg12 arg13 arg14 O W (3 * t.val)
      ⊢ wpT d i (tripC i x y arg5 arg6 harg6 arg7 harg7 arg8 harg8 arg9 arg10 arg11 arg12 arg13 arg14 t)
          (fun _ => J i x y d q XV YO E arg5 arg6 arg7 arg8 arg9 arg10 arg11 arg12 arg13 arg14 O W (3 * t.val + 3)) := by
  unfold tripC J
  iintro ⟨#Hmw, He, Hxf, Hxb, Hyf, Hyb, G7, G8, O6, S9, S13, S14, HO⟩
  iapply fetchedC_wp $$ [G7 Hxb HO]
  · isplitr; · iexact Hmw
    isplitl [G7]; · iexact G7
    isplitl [Hxb]; · iexact Hxb
    iexact HO
  iintro ⟨B7, Hxb, S10, HO⟩
  iapply addSend_wp $$ [He B7 Hyf S13]
  · isplitl [He]; · iexact He
    isplitl [B7]; · iexact B7
    isplitl [Hyf]; · iexact Hyf
    iexact S13
  iintro ⟨He, O7, Hyf⟩
  iapply sentC_wp $$ [O6 Hyb HO]
  · isplitr; · iexact Hmw
    isplitl [O6]; · iexact O6
    isplitl [Hyb]; · iexact Hyb
    iexact HO
  iintro ⟨B6, Hyb, S12, HO⟩
  iapply fetchC_wp $$ [B6 Hxf S9]
  · isplitl [B6]; · iexact B6
    isplitl [Hxf]; · iexact Hxf
    iexact S9
  iintro ⟨G6, Hxf⟩
  iapply fetchedC_wp $$ [G8 Hxb HO]
  · isplitr; · iexact Hmw
    isplitl [G8]; · iexact G8
    isplitl [Hxb]; · iexact Hxb
    iexact HO
  iintro ⟨B8, Hxb, S11, HO⟩
  iapply addSend_wp $$ [He B8 Hyf S14]
  · isplitl [He]; · iexact He
    isplitl [B8]; · iexact B8
    isplitl [Hyf]; · iexact Hyf
    iexact S14
  iintro ⟨He, O8, Hyf⟩
  iapply sentC_wp $$ [O7 Hyb HO]
  · isplitr; · iexact Hmw
    isplitl [O7]; · iexact O7
    isplitl [Hyb]; · iexact Hyb
    iexact HO
  iintro ⟨B7, Hyb, S13, HO⟩
  iapply fetchC_wp $$ [B7 Hxf S10]
  · isplitl [B7]; · iexact B7
    isplitl [Hxf]; · iexact Hxf
    iexact S10
  iintro ⟨G7, Hxf⟩
  iapply fetchedC_wp $$ [G6 Hxb HO]
  · isplitr; · iexact Hmw
    isplitl [G6]; · iexact G6
    isplitl [Hxb]; · iexact Hxb
    iexact HO
  iintro ⟨B6, Hxb, S9, HO⟩
  iapply addSend_wp $$ [He B6 Hyf S12]
  · isplitl [He]; · iexact He
    isplitl [B6]; · iexact B6
    isplitl [Hyf]; · iexact Hyf
    iexact S12
  iintro ⟨He, O6, Hyf⟩
  iapply sentC_wp $$ [O8 Hyb HO]
  · isplitr; · iexact Hmw
    isplitl [O8]; · iexact O8
    isplitl [Hyb]; · iexact Hyb
    iexact HO
  iintro ⟨B8, Hyb, S14, HO⟩
  iapply fetchC_wp $$ [B8 Hxf S11]
  · isplitl [B8]; · iexact B8
    isplitl [Hxf]; · iexact Hxf
    iexact S11
  iintro ⟨G8, Hxf⟩
  iapply (wpT_pure d i)
  isplitr; · iexact Hmw
  isplitl [He]; · iexact He
  isplitl [Hxf]; · iexact Hxf
  isplitl [Hxb]; · iexact Hxb
  isplitl [Hyf]; · iexact Hyf
  isplitl [Hyb]; · iexact Hyb
  isplitl [G7]; · iexact G7
  isplitl [G8]; · iexact G8
  isplitl [O6]; · iexact O6
  isplitl [S9]; · iexact S9
  isplitl [S13]; · iexact S13
  isplitl [S14]; · iexact S14
  iexact HO

/-- The tile's whole run. -/
theorem tile_wp {qw : PosShare TreeShare} {e0 : EV F} {B6 B7 B8 : CV F} :
    iprop(MW i d O ∗ owns (tl d i) (tabOf i w) qw E ∗ fromN (xP i x d q XV) 0 ∗ fromN (yO i y d YO) 0
        ∗ owns (tl d i) arg5 fullShare e0 ∗ owns (tl d i) arg6 fullShare B6 ∗ owns (tl d i) arg7 fullShare B7 ∗ owns (tl d i) arg8 fullShare B8
        ∗ S0 i d arg9 ∗ S0 i d arg10 ∗ S0 i d arg11 ∗ S0 i d arg12 ∗ S0 i d arg13 ∗ S0 i d arg14 ∗ S0 i d v57_r0 ∗ OW d i O W)
      ⊢ wpT d i (tileC i x w y arg5 harg5 arg6 harg6 arg7 harg7 arg8 harg8 arg9 arg10 arg11 arg12 arg13 arg14 v57_r0)
          (fun _ => iprop(owns (tl d i) (tabOf i w) qw E ∗ belowN (xP i x d q XV) 96 ∗ belowN (yN i y d XV E) 96
            ∗ (∃ f, owns (tl d i) arg5 fullShare f) ∗ (∃ f, owns (tl d i) arg6 fullShare f) ∗ (∃ f, owns (tl d i) arg7 fullShare f)
            ∗ (∃ f, owns (tl d i) arg8 fullShare f)
            ∗ S0 i d arg9 ∗ S0 i d arg10 ∗ S0 i d arg11 ∗ S0 i d arg12 ∗ S0 i d arg13 ∗ S0 i d arg14 ∗ S0 i d v57_r0 ∗ OW d i O W)) := by
  unfold tileC
  have hl := fun {α : Type} {k : TProg F i α} {Q : α → sProp 𝕄} =>
    wpT_for (d := d) (F := F) (i := i) k0_t3_loop k0_t3_ok (fun t _ => tripC i x y arg5 arg6 harg6 arg7 harg7 arg8 harg8 arg9 arg10 arg11 arg12 arg13 arg14 t)
      (fun n => J i x y d q XV YO E arg5 arg6 arg7 arg8 arg9 arg10 arg11 arg12 arg13 arg14 O W (3 * n)) (fun t => by
        have h := trip_wp (d := d) (i := i) (x := x) (y := y) (q := q) (XV := XV) (YO := YO) (E := E) (O := O) (W := W)
          arg5 arg6 harg6 arg7 harg7 arg8 harg8 arg9 arg10 arg11 arg12 arg13 arg14 t
        rw [← Nat.mul_succ] at h
        refine Eq.mp ?_ h
        congr 1) (k := k) (Q := Q)
  rw [show 3 * k0_t3_loop.trips = 93 by decide] at hl
  unfold J at hl
  have ht : fetchTab (F := F) i w ![c0 i, 0] (tab_inb i) arg5 harg5 v57_r0
      = Prog.lift (.enqueueDma (tabOf i w) (.here arg5) (.dma v57_r0.sem) (View.wordExact_bits rfl) harg5.wordExact ⟨Or.inl rfl, trivial⟩) := rfl
  have ht' : fetchedTab (F := F) i w ![c0 i, 0] (tab_inb i) arg5 harg5 v57_r0
      = Prog.lift (.waitDma2 v57_r0.sem (tabOf i w) arg5 (View.wordExact_bits rfl) harg5.wordExact) := rfl
  rw [ht, ht']
  iintro ⟨#Hmw, Hw, Hxf, Hyf, He, B6, B7, B8, S9, S10, S11, S12, S13, S14, Sw, HO⟩
  iapply (wpT_copy d i (by decide)) $$ [Hw He Sw]
  · isplitl [Hw]; · iexact Hw
    isplitl [He]; · iexact He
    iexact Sw
  iintro HF
  iapply (wpT_await d i) $$ [HF HO]
  · isplitr; · iexact Hmw
    isplitl [HF]; · iexact HF
    iexact HO
  iintro ⟨⟨He, Hw⟩, Sw, HO⟩
  ihave Hxb := (show (iprop(emp) : sProp 𝕄) ⊢ belowN (xP i x d q XV) 0 by rw [belowN, Finset.range_zero, bigSep_empty]; exact .rfl) $$ []
  · iempintro
  ihave Hyb := (show (iprop(emp) : sProp 𝕄) ⊢ belowN (yN i y d XV E) 0 by rw [belowN, Finset.range_zero, bigSep_empty]; exact .rfl) $$ []
  · iempintro
  iapply fetchC_wp $$ [B6 Hxf S9]
  · isplitl [B6]; · iexact B6
    isplitl [Hxf]; · iexact Hxf
    iexact S9
  iintro ⟨G6, Hxf⟩
  iapply fetchC_wp $$ [B7 Hxf S10]
  · isplitl [B7]; · iexact B7
    isplitl [Hxf]; · iexact Hxf
    iexact S10
  iintro ⟨G7, Hxf⟩
  iapply fetchedC_wp $$ [G6 Hxb HO]
  · isplitr; · iexact Hmw
    isplitl [G6]; · iexact G6
    isplitl [Hxb]; · iexact Hxb
    iexact HO
  iintro ⟨B6, Hxb, S9, HO⟩
  iapply addSend_wp $$ [He B6 Hyf S12]
  · isplitl [He]; · iexact He
    isplitl [B6]; · iexact B6
    isplitl [Hyf]; · iexact Hyf
    iexact S12
  iintro ⟨He, O6, Hyf⟩
  iapply fetchC_wp $$ [B8 Hxf S11]
  · isplitl [B8]; · iexact B8
    isplitl [Hxf]; · iexact Hxf
    iexact S11
  iintro ⟨G8, Hxf⟩
  iapply hl $$ [He Hxf Hxb Hyf Hyb G7 G8 O6 S9 S13 S14 HO]
  · isplitr; · iexact Hmw
    isplitl [He]; · iexact He
    isplitl [Hxf]; · iexact Hxf
    isplitl [Hxb]; · iexact Hxb
    isplitl [Hyf]; · iexact Hyf
    isplitl [Hyb]; · iexact Hyb
    isplitl [G7]; · iexact G7
    isplitl [G8]; · iexact G8
    isplitl [O6]; · iexact O6
    isplitl [S9]; · iexact S9
    isplitl [S13]; · iexact S13
    isplitl [S14]; · iexact S14
    iexact HO
  iintro ⟨-, He, Hxf, Hxb, Hyf, Hyb, G7, G8, O6, S9, S13, S14, HO⟩
  iapply fetchedC_wp $$ [G7 Hxb HO]
  · isplitr; · iexact Hmw
    isplitl [G7]; · iexact G7
    isplitl [Hxb]; · iexact Hxb
    iexact HO
  iintro ⟨B7, Hxb, S10, HO⟩
  iapply addSend_wp $$ [He B7 Hyf S13]
  · isplitl [He]; · iexact He
    isplitl [B7]; · iexact B7
    isplitl [Hyf]; · iexact Hyf
    iexact S13
  iintro ⟨He, O7, Hyf⟩
  iapply sentC_wp $$ [O6 Hyb HO]
  · isplitr; · iexact Hmw
    isplitl [O6]; · iexact O6
    isplitl [Hyb]; · iexact Hyb
    iexact HO
  iintro ⟨B6, Hyb, S12, HO⟩
  iapply fetchedC_wp $$ [G8 Hxb HO]
  · isplitr; · iexact Hmw
    isplitl [G8]; · iexact G8
    isplitl [Hxb]; · iexact Hxb
    iexact HO
  iintro ⟨B8, Hxb, S11, HO⟩
  iapply addSend_wp $$ [He B8 Hyf S14]
  · isplitl [He]; · iexact He
    isplitl [B8]; · iexact B8
    isplitl [Hyf]; · iexact Hyf
    iexact S14
  iintro ⟨He, O8, Hyf⟩
  iapply sentC_wp $$ [O7 Hyb HO]
  · isplitr; · iexact Hmw
    isplitl [O7]; · iexact O7
    isplitl [Hyb]; · iexact Hyb
    iexact HO
  iintro ⟨B7, Hyb, S13, HO⟩
  iapply sentC_wp $$ [O8 Hyb HO]
  · isplitr; · iexact Hmw
    isplitl [O8]; · iexact O8
    isplitl [Hyb]; · iexact Hyb
    iexact HO
  iintro ⟨B8, Hyb, S14, HO⟩
  iapply (wpT_pure d i)
  isplitl [Hw]; · iexact Hw
  isplitl [Hxb]; · iexact Hxb
  isplitl [Hyb]; · iexact Hyb
  isplitl [He]; · iexists _; iexact He
  isplitl [B6]; · iexists _; iexact B6
  isplitl [B7]; · iexists _; iexact B7
  isplitl [B8]; · iexists _; iexact B8
  isplitl [S9]; · iexact S9
  isplitl [S10]; · iexact S10
  isplitl [S11]; · iexact S11
  isplitl [S12]; · iexact S12
  isplitl [S13]; · iexact S13
  isplitl [S14]; · iexact S14
  isplitl [Sw]; · iexact Sw
  iexact HO

end Run

end Cert.Proof
-- ==== Proof.Pieces.lean ====
/-
  The whole arrays and the tiles' pieces of them. Rows `base i` to `base i + 10752` of `x` and of the output are the tile's
  at grid point `i`, in 96 chunks of 112 rows; the 32 tiles' 3072 chunks are all the rows, once each. The table goes to
  every tile whole, at one of 32 read shares.
-/
module

public import proofs.«01_k».proof.Proof.Tile
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the call computes -/

/-- The rows, 224 to a plane, and the table of 192 channels. -/
abbrev XA (F : FTy → Type) := S344064x224.Idx → Elt F .f32
abbrev EA (F : FTy → Type) := S192x224.Idx → Elt F .f32

/-- The table's place at channel `c`, position `h`. -/
def at192 (c h : Nat) : S192x224.Idx := ValueIdx.ix2 (n0 := 192) (n1 := 224) ⟨c % 192, Nat.mod_lt _ (by decide)⟩ ⟨h % 224, Nat.mod_lt _ (by decide)⟩

theorem eq_at192 (z : S192x224.Idx) (c h : Nat) (h0 : (z 0).val = c) (h1 : (z 1).val = h) : z = at192 c h := by
  have a0 : (z 0).val < 192 := (z 0).isLt
  have a1 : (z 1).val < 224 := (z 1).isLt
  funext a
  match a with
  | 0 => exact Fin.ext (show (z 0).val = c % 192 by omega)
  | 1 => exact Fin.ext (show (z 1).val = h % 224 by omega)

/-- The position added at each element: by the row within its plane for the first 96 channels, by the column for the others. -/
def posAll (E : EA F) : XA F := fun r =>
  if (r 0).val / 224 % 192 < 96 then E (at192 ((r 0).val / 224 % 192) ((r 0).val % 224)) else E (at192 ((r 0).val / 224 % 192) (r 1).val)
/-- `x` with its positions added. -/
def sumAll (X : XA F) (E : EA F) : XA F := fun r => FloatOps.addf (X r) (posAll E r)

/-! ## Chunks -/

variable (i : grid0.Coords)

/-- The rows of chunk `g`, and the tile's rows of the table. -/
abbrev crect (g : ℕ) : Rect S344064x224 := Rect.unit (s := S344064x224) (chunkOff i (g % 96)) S112x224.size (chunk_inb i (Nat.mod_lt g (by decide)))
abbrev trect : Rect S192x224 := Rect.unit (s := S192x224) ![c0 i, 0] S48x224.size (tab_inb i)
abbrev chunkSet (g : ℕ) : Finset S344064x224.Idx := (crect i g).set
abbrev tabSet : Finset S192x224.Idx := (trect i).set

/-- Chunk `g` of a function on the rows; the tile's rows of a table. -/
abbrev cut (X : XA F) (g : ℕ) : CV F := fun z => X ((crect i g).emb z)
abbrev cutE (E : EA F) : EV F := fun z => E ((trect i).emb z)

theorem mem_chunk (g : ℕ) (r : S344064x224.Idx) : r ∈ chunkSet i g ↔ base i + 112 * (g % 96) ≤ (r 0).val ∧ (r 0).val < base i + 112 * (g % 96) + 112 := by
  rw [Rect.mem_set_unit]
  constructor
  · intro h; exact h 0
  · intro h a
    match a with
    | 0 => exact h
    | 1 => exact ⟨Nat.zero_le _, by have := (r 1).isLt; show (r 1).val < 0 + 224; have h2 : (r 1).val < 224 := this; omega⟩

theorem crect_row (g : ℕ) (z : S112x224.Idx) : ((crect i g).emb z 0).val = base i + 112 * (g % 96) + (z 0).val :=
  unit_emb_val (sh := S344064x224) (chunkOff i (g % 96)) S112x224.size (chunk_inb i (Nat.mod_lt g (by decide))) z 0
theorem crect_col (g : ℕ) (z : S112x224.Idx) : ((crect i g).emb z 1).val = (z 1).val :=
  (unit_emb_val (sh := S344064x224) (chunkOff i (g % 96)) S112x224.size (chunk_inb i (Nat.mod_lt g (by decide))) z 1).trans (Nat.zero_add _)
theorem trect_at {r c : ℕ} (hr : r < 48) : (trect i).emb (at48 r c) = at192 (c0 i + r) (c % 224) := by
  refine eq_at192 _ _ _ ?_ ?_
  · refine (unit_emb_val (sh := S192x224) ![c0 i, 0] S48x224.size (tab_inb i) (at48 r c) 0).trans ?_
    show c0 i + r % 48 = _; rw [Nat.mod_eq_of_lt hr]
  · exact (unit_emb_val (sh := S192x224) ![c0 i, 0] S48x224.size (tab_inb i) (at48 r c) 1).trans (Nat.zero_add _)

theorem at192_mod (c h : ℕ) : at192 c (h % 224) = at192 c h := by unfold at192; simp only [Nat.mod_mod]

/-- What the tile leaves in chunk `g` is the chunk of the whole sum. -/
theorem sum_cut (X : XA F) (E : EA F) {g : ℕ} (hg : g < 96) : YV i (cut i X) (cutE i E) g = cut i (sumAll X E) g := by
  funext z
  have hz : (z 0).val < 112 := (z 0).isLt
  have e0 := crect_row i g z
  have e1 := crect_col i g z
  have h0 := i0_lt i
  have h1 := i1_lt i
  rw [Nat.mod_eq_of_lt hg] at e0
  have hb : base i = 224 * (96 * (i 1).val + 48 * (i 0).val) := by unfold base; omega
  have hq : ((crect i g).emb z 0).val / 224 % 192 = c0 i + g / 2 := by rw [e0, hb]; unfold c0; omega
  have hm : ((crect i g).emb z 0).val % 224 = 112 * (g % 2) + (z 0).val := by rw [e0, hb]; omega
  show FloatOps.addf (X _) (posOf i g (cutE i E) z) = FloatOps.addf (X _) (posAll E ((crect i g).emb z))
  unfold posOf posAll
  simp only [hq, hm, e1, cutE]
  rw [trect_at i (by omega : g / 2 < 48), trect_at i (by omega : g / 2 < 48), at192_mod, at192_mod]

/-! ## The grid -/

/-- The grid point of SparseCore `c`, vector subcore `s`. -/
def pt (c : Fin 2) (s : Fin 16) : grid0.Coords :=
  fun | 0 => c | 1 => s | ⟨_ + 2, h⟩ => absurd h (Nat.not_lt.2 (Nat.le_add_left _ _))

/-- All the chunks. -/
def allSet (t : Fin 2 × Fin 16 × Fin 96) : Finset S344064x224.Idx := chunkSet (pt t.1 t.2.1) t.2.2.val

theorem mem_allSet (t : Fin 2 × Fin 16 × Fin 96) (r : S344064x224.Idx) :
    r ∈ allSet t ↔ 21504 * t.2.1.val + 10752 * t.1.val + 112 * t.2.2.val ≤ (r 0).val ∧ (r 0).val < 21504 * t.2.1.val + 10752 * t.1.val + 112 * t.2.2.val + 112 := by
  unfold allSet; rw [mem_chunk, Nat.mod_eq_of_lt t.2.2.isLt]; exact Iff.rfl

theorem all_disjoint : ∀ t ∈ (Finset.univ : Finset (Fin 2 × Fin 16 × Fin 96)), ∀ t' ∈ (Finset.univ : Finset (Fin 2 × Fin 16 × Fin 96)), t ≠ t' →
    Disjoint (allSet t) (allSet t') := by
  rintro ⟨c, s, g⟩ - ⟨c', s', g'⟩ - hne
  rw [Finset.disjoint_left]
  intro r h h'
  rw [mem_allSet] at h h'
  apply hne
  have := c.isLt; have := c'.isLt; have := s.isLt; have := s'.isLt; have := g.isLt; have := g'.isLt
  simp only at h h'
  have hs : s.val = s'.val := by omega
  have hc : c.val = c'.val := by omega
  have hg : g.val = g'.val := by omega
  rw [Fin.ext hs, Fin.ext hc, Fin.ext hg]

theorem all_cover : (Finset.univ : Finset (Fin 2 × Fin 16 × Fin 96)).biUnion allSet = Finset.univ := by
  refine Finset.eq_univ_of_forall fun r => ?_
  have hr : (r 0).val < 344064 := (r 0).isLt
  rw [Finset.mem_biUnion]
  refine ⟨(⟨(r 0).val / 10752 % 2, by omega⟩, ⟨(r 0).val / 21504, by omega⟩, ⟨(r 0).val / 112 % 96, by omega⟩), Finset.mem_univ _, ?_⟩
  rw [mem_allSet]
  simp only
  omega

/-! ## The tile's pieces as `owns` -/

abbrev xLoc (d : Dev nD) : Loc nD τ sig := (SparseCore.T d).loc main_v3
abbrev wLoc (d : Dev nD) : Loc nD τ sig := (SparseCore.T d).loc main_v2
abbrev oLoc (d : Dev nD) : Loc nD τ sig := (SparseCore.T d).loc main_v4

abbrev xM : Memref sig .scVector .hbm S344064x224 .f32 := Memref.whole main_v3_scv
abbrev wM : Memref sig .scVector .hbm S192x224 .f32 := Memref.whole main_v2_scv
abbrev oM : Memref sig .scVector .hbm S344064x224 .f32 := Memref.whole main_v4_scv

variable (d : Dev nD) (q : PosShare TreeShare)

theorem own_x (X : XA F) (g : ℕ) : (xP i xM d q (cut i X) g : sProp 𝕄) = xLoc d ↦[chunkSet i g]{q} X := by
  have h := owns_slice_read (nD := nD) (τ := τ) (Ix := HIx 1) (Val := Elt F) (Name := ℕ) (U := UU) (Lvl := ℕ) (tl d i) xM q (crect i g) (fun _ => rfl) X
  have hs : ((View.whole (main_v3_scv : Ref sig .scVector)).slice (crect i g)).set = (crect i g).set := by rw [View.set_slice]; exact Finset.map_refl
  rw [show chunkSet i g = ((View.whole (main_v3_scv : Ref sig .scVector)).slice (crect i g)).set from hs.symm]
  exact h
theorem own_o (X : XA F) (g : ℕ) : (yO i oM d (cut i X) g : sProp 𝕄) = oLoc d ↦[chunkSet i g]{fullShare} X := by
  have h := owns_slice_read (nD := nD) (τ := τ) (Ix := HIx 1) (Val := Elt F) (Name := ℕ) (U := UU) (Lvl := ℕ) (tl d i) oM fullShare (crect i g) (fun _ => rfl) X
  have hs : ((View.whole (main_v4_scv : Ref sig .scVector)).slice (crect i g)).set = (crect i g).set := by rw [View.set_slice]; exact Finset.map_refl
  rw [show chunkSet i g = ((View.whole (main_v4_scv : Ref sig .scVector)).slice (crect i g)).set from hs.symm]
  exact h
theorem own_w (E : EA F) : (owns (tl d i) (tabOf i wM) q (cutE i E) : sProp 𝕄) = wLoc d ↦[tabSet i]{q} E := by
  have h := owns_slice_read (nD := nD) (τ := τ) (Ix := HIx 1) (Val := Elt F) (Name := ℕ) (U := UU) (Lvl := ℕ) (tl d i) wM q (trect i) (fun _ => rfl) E
  have hs : ((View.whole (main_v2_scv : Ref sig .scVector)).slice (trect i)).set = (trect i).set := by rw [View.set_slice]; exact Finset.map_refl
  rw [show tabSet i = ((View.whole (main_v2_scv : Ref sig .scVector)).slice (trect i)).set from hs.symm]
  exact h

/-- What one tile takes and brings back: its chunks of `x`, its chunks of the output, its share of the table. -/
def piece (X Y : XA F) (E : EA F) : sProp 𝕄 :=
  iprop((bigSep (Finset.range 96) fun g => xLoc d ↦[chunkSet i g]{fullShare} X) ∗ (bigSep (Finset.range 96) fun g => oLoc d ↦[chunkSet i g]{fullShare} Y)
    ∗ wLoc d ↦{q} E)

theorem piece_in (X Y : XA F) (E : EA F) :
    (piece i d q X Y E : sProp 𝕄) ⊢ iprop(fromN (xP i xM d fullShare (cut i X)) 0 ∗ fromN (yO i oM d (cut i Y)) 0
      ∗ owns (tl d i) (tabOf i wM) q (cutE i E) ∗ wLoc d ↦[Finset.univ \ tabSet i]{q} E) := by
  unfold piece fromN
  rw [Finset.range_eq_Ico, bigSep_congr (fun g _ => (own_x i d fullShare X g).symm), bigSep_congr (fun g _ => (own_o i d Y g).symm), own_w]
  iintro ⟨Hx, Ho, Hw⟩
  isplitl [Hx]; · iexact Hx
  isplitl [Ho]; · iexact Ho
  iapply (pointsTo_split_subset (Finset.subset_univ (tabSet i))).1
  iexact Hw

theorem piece_out (X : XA F) (E : EA F) :
    iprop(owns (tl d i) (tabOf i wM) q (cutE i E) ∗ belowN (xP i xM d fullShare (cut i X)) 96 ∗ belowN (yN i oM d (cut i X) (cutE i E)) 96
      ∗ wLoc d ↦[Finset.univ \ tabSet i]{q} E) ⊢ (piece i d q X (sumAll X E) E : sProp 𝕄) := by
  unfold piece belowN
  rw [bigSep_congr (fun g _ => own_x i d fullShare X g),
    bigSep_congr (fun g hg => (congrArg (owns (tl d i) (chunk i oM g) fullShare) (sum_cut i X E (Finset.mem_range.mp hg))).trans (own_o i d (sumAll X E) g)), own_w]
  iintro ⟨Hw, Hx, Ho, Hr⟩
  isplitl [Hx]; · iexact Hx
  isplitl [Ho]; · iexact Ho
  iapply (pointsTo_split_subset (Finset.subset_univ (tabSet i))).2
  isplitl [Hw]; · iexact Hw
  iexact Hr

/-! ## The whole arrays are all the pieces -/

/-- The read share of the table that goes to SparseCore `c`, vector subcore `s`. -/
def shr (c : Fin 2) (s : Fin 16) : PosShare TreeShare := ShareLeaves.leaf 5 fullShare (finProdFinEquiv (m := 2) (n := 16) (c, s))

theorem fin_range (n : ℕ) (Φ : ℕ → sProp 𝕄) : bigSep (Finset.univ : Finset (Fin n)) (fun g => Φ g.val) = bigSep (Finset.range n) Φ := by
  have e : Finset.range n = (Finset.univ : Finset (Fin n)).map Fin.valEmbedding := by
    ext k; simp only [Finset.mem_range, Finset.mem_map, Finset.mem_univ, Fin.valEmbedding_apply, true_and]
    exact ⟨fun h => ⟨⟨k, h⟩, rfl⟩, fun ⟨j, hj⟩ => hj ▸ j.isLt⟩
  rw [e, BI.bigSep_map]; rfl

theorem whole_x (X : XA F) : (xLoc d ↦{fullShare} X : sProp 𝕄)
    = bigSep Finset.univ fun c : Fin 2 => bigSep Finset.univ fun s : Fin 16 => bigSep (Finset.range 96) fun g => xLoc d ↦[chunkSet (pt c s) g]{fullShare} X := by
  rw [show (xLoc d ↦{fullShare} X : sProp 𝕄) = xLoc d ↦[Finset.univ.biUnion allSet]{fullShare} X by rw [all_cover],
    pointsTo_biUnion Finset.univ (ℓ := xLoc d) allSet all_disjoint, bigSep_univ_prod]
  refine bigSep_congr fun c _ => ?_
  rw [bigSep_univ_prod]
  exact bigSep_congr fun s _ => fin_range 96 (fun g => xLoc d ↦[chunkSet (pt c s) g]{fullShare} X)
theorem whole_o (X : XA F) : (oLoc d ↦{fullShare} X : sProp 𝕄)
    = bigSep Finset.univ fun c : Fin 2 => bigSep Finset.univ fun s : Fin 16 => bigSep (Finset.range 96) fun g => oLoc d ↦[chunkSet (pt c s) g]{fullShare} X := by
  rw [show (oLoc d ↦{fullShare} X : sProp 𝕄) = oLoc d ↦[Finset.univ.biUnion allSet]{fullShare} X by rw [all_cover],
    pointsTo_biUnion Finset.univ (ℓ := oLoc d) allSet all_disjoint, bigSep_univ_prod]
  refine bigSep_congr fun c _ => ?_
  rw [bigSep_univ_prod]
  exact bigSep_congr fun s _ => fin_range 96 (fun g => oLoc d ↦[chunkSet (pt c s) g]{fullShare} X)
theorem whole_w (E : EA F) : (wLoc d ↦{fullShare} E : sProp 𝕄)
    = bigSep Finset.univ fun c : Fin 2 => bigSep Finset.univ fun s : Fin 16 => wLoc d ↦{shr c s} E := by
  refine (ShareLeaves.pointsTo_leaves (ℓ := wLoc d) Finset.univ E 5 fullShare).trans ?_
  refine (bigSep_univ_equiv (finProdFinEquiv (m := 2) (n := 16)) (fun k => (wLoc d ↦{ShareLeaves.leaf 5 fullShare k} E : sProp 𝕄))).trans ?_
  rw [bigSep_univ_prod]
  rfl

/-- The three arrays whole are the 32 tiles' pieces. -/
theorem whole_pieces (X Y : XA F) (E : EA F) :
    (iprop((xLoc d ↦{fullShare} X) ∗ (oLoc d ↦{fullShare} Y) ∗ wLoc d ↦{fullShare} E) : sProp 𝕄)
      = bigSep Finset.univ fun c : Fin 2 => bigSep Finset.univ fun s : Fin 16 => piece (pt c s) d (shr c s) X Y E := by
  unfold piece
  rw [whole_x, whole_o, whole_w, ← bigSep_sep', ← bigSep_sep']
  refine bigSep_congr fun c _ => ?_
  rw [← bigSep_sep', ← bigSep_sep']

end Cert.Proof

end
-- ==== Proof.Task.lean ====
/-
  The one SparseCore call as the launch sees it: what travels to each tile and back (`P`), the tile's obligation (`tileObl`),
  and the split of a SparseCore's part among its sixteen tiles (`vecSplit`), which is by definition.
-/
module

public import proofs.«01_k».proof.Proof.Pieces

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)
theorem nCore_eq : (K (F := F)).nCore 0 = 2 := rfl
theorem nSub_eq : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable [FloatOps F]

/-! ## What travels -/

variable (X Y : Dev nD → XA F) (E : Dev nD → EA F)

/-- SparseCore `c`'s part: its sixteen tiles' pieces. -/
@[irreducible] def part16 (d : Dev nD) (c : Fin 2) (X Y : XA F) (E : EA F) : sProp 𝕄 :=
  bigSep Finset.univ fun s : Fin 16 => piece (pt c s) d (shr c s) X Y E

/-- Each tile takes its piece, with the output as it stands, and brings it back with the sums in the output. -/
def P : (K (F := F)).Pay (nD := nD) (Val := Elt F) (Name := ℕ) (U := UU) where
  st := fun q d c => match q with | 0 => part16 d (Fin.cast nCore_eq c) (X d) (Y d) (E d)
  dn := fun q d c => match q with | 0 => part16 d (Fin.cast nCore_eq c) (X d) (sumAll (X d) (E d)) (E d)
  go := fun q d c i => match q with
    | 0 => piece (pt (Fin.cast nCore_eq c) (Fin.cast nSub_eq i)) d (shr (Fin.cast nCore_eq c) (Fin.cast nSub_eq i)) (X d) (Y d) (E d)
  td := fun q d c i => match q with
    | 0 => piece (pt (Fin.cast nCore_eq c) (Fin.cast nSub_eq i)) d (shr (Fin.cast nCore_eq c) (Fin.cast nSub_eq i)) (X d) (sumAll (X d) (E d)) (E d)
  x := fun _ _ => iprop(emp)

instance piece_storable (i : grid0.Coords) (d : Dev nD) (q : PosShare TreeShare) (X Y : XA F) (E : EA F) :
    BI.Storable (upEmb : UEmb _ 𝕄) (piece i d q X Y E) := by unfold piece; infer_instance

theorem part16_storable (d : Dev nD) (c : Fin 2) (X Y : XA F) (E : EA F) : BI.Storable (upEmb : UEmb _ 𝕄) (part16 d c X Y E) := by
  unfold part16
  exact BI.Storable.bigSep (upEmb : UEmb _ 𝕄) Finset.univ fun s => piece (pt c s) d (shr c s) X Y E

instance P_storable : (P X Y E).IsStorable where
  st q d c := match q with
    | 0 => part16_storable d (Fin.cast nCore_eq c) (X d) (Y d) (E d)
  dn q d c := match q with
    | 0 => part16_storable d (Fin.cast nCore_eq c) (X d) (sumAll (X d) (E d)) (E d)
  go q d c i := match q with
    | 0 => piece_storable (pt (Fin.cast nCore_eq c) (Fin.cast nSub_eq i)) d (shr (Fin.cast nCore_eq c) (Fin.cast nSub_eq i)) (X d) (Y d) (E d)
  td q d c i := match q with
    | 0 => piece_storable (pt (Fin.cast nCore_eq c) (Fin.cast nSub_eq i)) d (shr (Fin.cast nCore_eq c) (Fin.cast nSub_eq i)) (X d) (sumAll (X d) (E d)) (E d)

/-! ## The tile's own scratch -/

section Own

variable (d : Dev nD) (i : grid0.Coords)

/-- The tile's seven semaphores and four buffers. -/
abbrev sems7 : Finset (SemLoc sig) :=
  {.dma cc0_scratch4.sem, .dma cc0_scratch5.sem, .dma cc0_scratch6.sem, .dma cc0_scratch7.sem, .dma cc0_scratch8.sem, .dma cc0_scratch9.sem, .dma cc0_scoped0.sem}
abbrev bufs4 : Finset (Ref sig .scVector) := {cc0_scratch0, cc0_scratch1, cc0_scratch2, cc0_scratch3}

def cellsOf : Finset (GSem nD τ sig) := sems7.map ⟨fun s => (tl d i, s), fun _ _ h => (Prod.mk.inj h).2⟩
def refsOf : Finset (DevRef τ sig) := bufs4.map ⟨(tl d i).2.devRef, Proc.devRef_injective _⟩

omit [FloatOps F] in
theorem sems7_scoped : ∀ s ∈ sems7, s.isScoped .scVector = true := by decide

omit [FloatOps F] in
theorem ownSems0_tile :
    (ownSems0 (tl d i) : sProp 𝕄)
      = iprop((S0 i d cc0_scratch4 ∗ S0 i d cc0_scratch5 ∗ S0 i d cc0_scratch6 ∗ S0 i d cc0_scratch7 ∗ S0 i d cc0_scratch8 ∗ S0 i d cc0_scratch9 ∗ S0 i d cc0_scoped0)
          ∗ bigSep (ownCells (tl d i) \ cellsOf d i) fun g => semVal g 0) := by
  have hs : cellsOf d i ⊆ ownCells (tl d i) := by
    intro g hg
    obtain ⟨s, hs, rfl⟩ := Finset.mem_map.mp hg
    exact mem_ownCells.mpr ⟨rfl, sems7_scoped s hs⟩
  unfold SparseCore.Cfg.ownSems0
  rw [SparseCore.bigSep_sdiff_split' hs]
  congr 1
  unfold cellsOf sems7
  rw [BI.bigSep_map, SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- A buffer of the tile's, at some contents. -/
abbrev any {sh : Shape} (b : Memref sig .scVector .vmem sh .f32) : sProp 𝕄 := iprop(∃ f, owns (tl d i) b fullShare f)

omit [FloatOps F] in
theorem ownBufs_tile :
    (ownBufs (tl d i) : sProp 𝕄)
      = iprop((any d i (Memref.whole cc0_scratch0) ∗ any d i (Memref.whole cc0_scratch1) ∗ any d i (Memref.whole cc0_scratch2) ∗ any d i (Memref.whole cc0_scratch3))
          ∗ bigSep (ownRefs (τ := τ) (tl d i).2 \ refsOf d i) fun b => iprop(∃ f, ((d, b) : Loc nD τ sig) ↦{fullShare} f)) := by
  have hs : refsOf d i ⊆ ownRefs (τ := τ) (tl d i).2 := by
    intro b hb
    obtain ⟨r, hr, rfl⟩ := Finset.mem_map.mp hb
    simp only [bufs4, Finset.mem_insert, Finset.mem_singleton] at hr
    refine SparseCore.Cfg.mem_ownRefs_of_owner ?_
    rcases hr with rfl | rfl | rfl | rfl <;> rfl
  unfold SparseCore.Cfg.ownBufs any
  rw [SparseCore.bigSep_sdiff_split' hs]
  simp only [owns_whole]
  congr 1
  unfold refsOf bufs4
  rw [BI.bigSep_map, SparseCore.bigSep_insert' (show (cc0_scratch0 : Ref sig .scVector) ∉ ({cc0_scratch1, cc0_scratch2, cc0_scratch3} : Finset (Ref sig .scVector)) by decide),
    SparseCore.bigSep_insert' (show (cc0_scratch1 : Ref sig .scVector) ∉ ({cc0_scratch2, cc0_scratch3} : Finset (Ref sig .scVector)) by decide),
    SparseCore.bigSep_insert' (show (cc0_scratch2 : Ref sig .scVector) ∉ ({cc0_scratch3} : Finset (Ref sig .scVector)) by decide), bigSep_singleton]
  rfl

end Own

/-! ## The tile's obligation -/

section Tile

variable (d : Dev nD) (i : grid0.Coords) (q : PosShare TreeShare)

/-- The tile's program at its arguments. -/
abbrev bodyAt : TProg F i PUnit :=
  cc0__sc_body i (Memref.whole main_v3_scv) (Memref.isWhole_whole _) (Memref.whole main_v2_scv) (Memref.isWhole_whole _) (Memref.whole main_v4_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 cc0_scoped0

theorem tile_body (hF : (K (F := F)).Facts) (X Y : XA F) (E : EA F) (O : CellTallies nD τ sig (HIx 1)) (W : Waits sig (HIx 1)) (hO : ∀ g, O g none = 0) :
    iprop(levAts (K (F := F)).L (K (F := F)).lev ∗ emp ∗ piece i d q X Y E
        ∗ scopedBufs (tl d i) ∗ scopedSems0 (tl d i) ∗ owes (tl d i) O W)
      ⊢ wpT d i (bodyAt i) fun _ => iprop(piece i d q X (sumAll X E) E ∗ scopedBufs (tl d i) ∗ scopedSems0 (tl d i)
            ∗ ∃ W', ⌜∀ p ∈ W', p ∈ W ∨ p.2 = none⌝ ∗ owes (tl d i) O W') := by
  have hb : bodyAt (F := F) i = tileC i xM wM oM (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scoped0 := body_chunks ..
  rw [hb, (K (F := F)).scopedBufs_V hF d ((i 0).castLE hcore0) ((i 1).castLE hsub0),
    SparseCore.Cfg.scopedSems0_V (Val := Elt F) d ((i 0).castLE hcore0) ((i 1).castLE hsub0), ownSems0_tile, ownBufs_tile]
  have ht := fun e0 B6 B7 B8 => tile_wp (i := i) (d := d) (x := xM) (y := oM) (w := wM) (q := fullShare) (XV := cut i X) (YO := cut i Y) (E := cutE i E) (O := O) (W := W)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 cc0_scoped0
    (qw := q) (e0 := e0) (B6 := B6) (B7 := B7) (B8 := B8)
  iintro ⟨#Hlv, -, Hp, ⟨⟨⟨%f0, B0⟩, ⟨%f1, B1⟩, ⟨%f2, B2⟩, ⟨%f3, B3⟩⟩, Hbufs⟩, ⟨⟨S4, S5, S6, S7, S8, S9, Sw⟩, Hsems⟩, HO⟩
  ihave Hmw := (show levAts (K (F := F)).L (K (F := F)).lev ⊢ Transfers.MayWaits (tl d i) (none : HIx 1) O from
    (K (F := F)).mayWaits_none (thr := tl d i) hO) $$ Hlv
  ihave Hp' := (piece_in i d q X Y E) $$ Hp
  icases Hp' with ⟨Hx, Ho, Hw, Hr⟩
  ihave Hrun := (ht f0 f1 f2 f3) $$ [Hmw Hx Ho Hw B0 B1 B2 B3 S4 S5 S6 S7 S8 S9 Sw HO]
  · isplitl [Hmw]; · iexact Hmw
    isplitl [Hw]; · iexact Hw
    isplitl [Hx]; · iexact Hx
    isplitl [Ho]; · iexact Ho
    isplitl [B0]; · iexact B0
    isplitl [B1]; · iexact B1
    isplitl [B2]; · iexact B2
    isplitl [B3]; · iexact B3
    isplitl [S4]; · iexact S4
    isplitl [S5]; · iexact S5
    isplitl [S6]; · iexact S6
    isplitl [S7]; · iexact S7
    isplitl [S8]; · iexact S8
    isplitl [S9]; · iexact S9
    isplitl [Sw]; · iexact Sw
    iexists W
    isplitr
    · ipureintro; exact fun p hp => Or.inl hp
    iexact HO
  iapply (wp_wand frame (wpE (defs₀ (F := F)) 𝒱₀ (tl d i) none) Set.univ) $$ [Hrun]
  · iexact Hrun
  iintro %_ ⟨Hw, Hx, Ho, B0, B1, B2, B3, S4, S5, S6, S7, S8, S9, Sw, HO⟩
  isplitl [Hw Hx Ho Hr]
  · iapply (piece_out i d q X E)
    isplitl [Hw]; · iexact Hw
    isplitl [Hx]; · iexact Hx
    isplitl [Ho]; · iexact Ho
    iexact Hr
  isplitl [B0 B1 B2 B3 Hbufs]
  · isplitl [B0 B1 B2 B3]
    · isplitl [B0]; · iexact B0
      isplitl [B1]; · iexact B1
      isplitl [B2]; · iexact B2
      iexact B3
    iexact Hbufs
  isplitl [S4 S5 S6 S7 S8 S9 Sw Hsems]
  · isplitl [S4 S5 S6 S7 S8 S9 Sw]
    · isplitl [S4]; · iexact S4
      isplitl [S5]; · iexact S5
      isplitl [S6]; · iexact S6
      isplitl [S7]; · iexact S7
      isplitl [S8]; · iexact S8
      isplitl [S9]; · iexact S9
      iexact Sw
    iexact Hsems
  iexact HO

omit [FloatOps F] in
theorem wider {thr : Thread nD τ} {A B C : sProp 𝕄} {O : CellTallies nD τ sig (HIx 1)} {W : Waits sig (HIx 1)} {k : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some k⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_tile (c : Fin τ.nSC) (s : Fin τ.nSub) :
    defs₀ (F := F) (.scVector c s) 0 () = SparseCore.onTile hcore0 hsub0 (fun c s => bodyAt (pt c s)) ⟨⟩ c s := rfl

set_option maxRecDepth 16384 in
theorem tileObl (X Y : Dev nD → XA F) (E : Dev nD → EA F) (hF : (K (F := F)).Facts) : (K (F := F)).TileObl (D (F := F)) 𝒱 (P X Y E) v₀ 0 := by
  intro d c i O W hO _ _
  simp only [show (P X Y E).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (pt ⟨_, hci.1⟩ ⟨_, hci.2⟩) (shr (Fin.cast nCore_eq c) (Fin.cast nSub_eq i)) hF (X d) (Y d) (E d) O W hO).trans (wp_mono frame _ _ fun _ => wider)

theorem st_eq (X Y : Dev nD → XA F) (E : Dev nD → EA F) (d : Dev nD) (c : Fin ((K (F := F)).nCore 0)) :
    (P X Y E).st 0 d c = bigSep Finset.univ fun i : Fin ((K (F := F)).nSub 0) => (P X Y E).go 0 d c i := by
  show part16 d (Fin.cast nCore_eq c) (X d) (Y d) (E d) = _
  unfold part16
  exact bigSep_congr fun s _ => rfl
theorem dn_eq (X Y : Dev nD → XA F) (E : Dev nD → EA F) (d : Dev nD) (c : Fin ((K (F := F)).nCore 0)) :
    (P X Y E).dn 0 d c = bigSep Finset.univ fun i : Fin ((K (F := F)).nSub 0) => (P X Y E).td 0 d c i := by
  show part16 d (Fin.cast nCore_eq c) (X d) (sumAll (X d) (E d)) (E d) = _
  unfold part16
  exact bigSep_congr fun s _ => rfl

theorem vecSplit (X Y : Dev nD → XA F) (E : Dev nD → EA F) : (K (F := F)).VecSplit' (P X Y E) 0 := by
  intro d c
  rw [st_eq, dn_eq]
  iintro H; imodintro
  isplitl [H]; · iexact H
  iintro H; iexact H

end Tile

end Cert.Proof

end
-- ==== Proof.Launch.lean ====
/-
  The whole program's run, over any float values: the arguments stay, every semaphore ends at zero, and the result is
  `outv`, the sums of `sumAll` in the argument's shape.
-/
module

public import proofs.«01_k».proof.Proof.Task

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.ShloMosaic.StableHlo (held held_sub_split held_congr wp_seq seq after)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's operations and values -/

/-- Before the call: the two tables transposed and joined, `x` as rows. After it: the rows in `x`'s shape. -/
abbrev pre4 : List (HloOp τ sig (Elt F)) :=
  [StableHlo.unary main_arg1 main_v0 ((transpose S96x224 [1, 0] · transposes_S224x96_S96x224_1_0) : (⟨S224x96, .f32⟩ : BufTy).Contents (Elt F) → (⟨S96x224, .f32⟩ : BufTy).Contents (Elt F)),
    StableHlo.unary main_arg2 main_v1 ((transpose S96x224 [1, 0] · transposes_S224x96_S96x224_1_0) : (⟨S224x96, .f32⟩ : BufTy).Contents (Elt F) → (⟨S96x224, .f32⟩ : BufTy).Contents (Elt F)),
    StableHlo.binary main_v0 main_v1 main_v2 ((fun a b => concatenate S192x224 0 [⟨S96x224, a⟩, ⟨S96x224, b⟩] concatenates_S96x224_S96x224_S192x224_d0) : (⟨S96x224, .f32⟩ : BufTy).Contents (Elt F) → (⟨S96x224, .f32⟩ : BufTy).Contents (Elt F) → (⟨S192x224, .f32⟩ : BufTy).Contents (Elt F)),
    StableHlo.reshape main_arg0 main_v3 (rfl : (.f32 : EltTy) = .f32) shapeCasts_S8x192x224x224_S344064x224]
abbrev post1 : List (HloOp τ sig (Elt F)) :=
  [StableHlo.reshape main_v4 main_v5 (rfl : (.f32 : EltTy) = .f32) shapeCasts_S344064x224_S8x192x224x224]

theorem main_eq (d : Dev nD) : main (F := F) d = (seq pre4 >>= fun _ => (sc (F := F)).run d 0 >>= fun _ => seq post1 >>= fun _ => pure ⟨⟩) := rfl

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev w' : DevRef τ sig := Proc.devRef .tc (main_v2 : Ref sig .tc)
abbrev x' : DevRef τ sig := Proc.devRef .tc (main_v3 : Ref sig .tc)
abbrev o' : DevRef τ sig := Proc.devRef .tc (main_v4 : Ref sig .tc)
abbrev r' : DevRef τ sig := Proc.devRef .tc (main_v5 : Ref sig .tc)

/-- The host's arrays; those the call takes; those the claims read. -/
def hostRefs : Finset (DevRef τ sig) := (Finset.univ.filter fun b : Ref sig .tc => ¬ b.isScoped).map ⟨Proc.devRef (sig := sig) (.tc : Proc τ), Proc.devRef_injective _⟩
abbrev callRefs : Finset (DevRef τ sig) := {x', o', w'}
abbrev endRefs : Finset (DevRef τ sig) := {a0', a1', a2', r'}

theorem mem_hostRefs (b : Ref sig .tc) (h : ¬ b.isScoped) : (Proc.devRef (τ := τ) .tc b) ∈ hostRefs :=
  Finset.mem_map_of_mem _ (Finset.mem_filter.mpr ⟨Finset.mem_univ b, h⟩)

theorem callRefs_sub : callRefs ⊆ hostRefs := by
  intro b hb
  simp only [callRefs, Finset.mem_insert, Finset.mem_singleton] at hb
  rcases hb with rfl | rfl | rfl <;> exact mem_hostRefs _ (by decide)
theorem endRefs_sub : endRefs ⊆ hostRefs := by
  intro b hb
  simp only [endRefs, Finset.mem_insert, Finset.mem_singleton] at hb
  rcases hb with rfl | rfl | rfl | rfl <;> exact mem_hostRefs _ (by decide)

theorem pre4_sub : ∀ op ∈ (pre4 : List (HloOp τ sig (Elt F))), op.bufs ⊆ hostRefs := by
  intro op h
  simp only [pre4, List.mem_cons, List.not_mem_nil, or_false] at h
  rcases h with rfl | rfl | rfl | rfl
  · show ({a1', Proc.devRef .tc (main_v0 : Ref sig .tc)} : Finset (DevRef τ sig)) ⊆ hostRefs
    intro b hb; simp only [Finset.mem_insert, Finset.mem_singleton] at hb
    rcases hb with rfl | rfl <;> exact mem_hostRefs _ (by decide)
  · show ({a2', Proc.devRef .tc (main_v1 : Ref sig .tc)} : Finset (DevRef τ sig)) ⊆ hostRefs
    intro b hb; simp only [Finset.mem_insert, Finset.mem_singleton] at hb
    rcases hb with rfl | rfl <;> exact mem_hostRefs _ (by decide)
  · show ({Proc.devRef .tc (main_v0 : Ref sig .tc), Proc.devRef .tc (main_v1 : Ref sig .tc), w'} : Finset (DevRef τ sig)) ⊆ hostRefs
    intro b hb; simp only [Finset.mem_insert, Finset.mem_singleton] at hb
    rcases hb with rfl | rfl | rfl <;> exact mem_hostRefs _ (by decide)
  · show ({a0', x'} : Finset (DevRef τ sig)) ⊆ hostRefs
    intro b hb; simp only [Finset.mem_insert, Finset.mem_singleton] at hb
    rcases hb with rfl | rfl <;> exact mem_hostRefs _ (by decide)
theorem post1_sub : ∀ op ∈ (post1 : List (HloOp τ sig (Elt F))), op.bufs ⊆ hostRefs := by
  intro op h
  simp only [post1, List.mem_cons, List.not_mem_nil, or_false] at h
  subst h
  show ({o', r'} : Finset (DevRef τ sig)) ⊆ hostRefs
  intro b hb; simp only [Finset.mem_insert, Finset.mem_singleton] at hb
  rcases hb with rfl | rfl <;> exact mem_hostRefs _ (by decide)
theorem pre4_fresh : ∀ op ∈ (pre4 : List (HloOp τ sig (Elt F))), op.fresh = ∅ := by
  intro op h
  simp only [pre4, List.mem_cons, List.not_mem_nil, or_false] at h
  rcases h with rfl | rfl | rfl | rfl <;> rfl
theorem post1_fresh : ∀ op ∈ (post1 : List (HloOp τ sig (Elt F))), op.fresh = ∅ := by
  intro op h
  simp only [post1, List.mem_cons, List.not_mem_nil, or_false] at h
  subst h; rfl

/-- The rows, the joined table, and the result, as functions of the arguments. -/
def rows (d : Dev nD) : XA F := shapeCast S344064x224 (m ((SparseCore.T d).loc main_arg0)) shapeCasts_S8x192x224x224_S344064x224
def table (d : Dev nD) : EA F :=
  concatenate S192x224 0 [⟨S96x224, transpose S96x224 [1, 0] (m ((SparseCore.T d).loc main_arg1)) transposes_S224x96_S96x224_1_0⟩,
    ⟨S96x224, transpose S96x224 [1, 0] (m ((SparseCore.T d).loc main_arg2)) transposes_S224x96_S96x224_1_0⟩] concatenates_S96x224_S96x224_S192x224_d0
def outv (d : Dev nD) : S8x192x224x224.Idx → Elt F .f32 := shapeCast S8x192x224x224 (sumAll (rows m d) (table m d)) shapeCasts_S344064x224_S8x192x224x224

/-- The contents at the start, before the call, after it, at the end. -/
def V0 (d : Dev nD) : Valuation τ sig (Elt F) := fun b => m (d, b)
def V1 (d : Dev nD) : Valuation τ sig (Elt F) := after pre4 (V0 m d)
def V2 (d : Dev nD) : Valuation τ sig (Elt F) := Function.update (V1 m d) o' (sumAll (rows m d) (table m d))
def V3 (d : Dev nD) : Valuation τ sig (Elt F) := after post1 (V2 m d)
/-- The output's array before the call. -/
def outBefore (d : Dev nD) : XA F := V1 m d o'

theorem V1_x (d : Dev nD) : V1 m d x' = rows m d := by
  unfold V1; after_results_simp; rfl
theorem V1_w (d : Dev nD) : V1 m d w' = table m d := by
  unfold V1; after_results_simp; rfl
theorem V1_a0 (d : Dev nD) : V1 m d a0' = m ((SparseCore.T d).loc main_arg0) := by
  unfold V1; after_results_simp; rfl
theorem V1_a1 (d : Dev nD) : V1 m d a1' = m ((SparseCore.T d).loc main_arg1) := by
  unfold V1; after_results_simp; rfl
theorem V1_a2 (d : Dev nD) : V1 m d a2' = m ((SparseCore.T d).loc main_arg2) := by
  unfold V1; after_results_simp; rfl
theorem V2_o (d : Dev nD) : V2 m d o' = sumAll (rows m d) (table m d) := Function.update_self _ _ _
theorem V2_ne (d : Dev nD) {b : DevRef τ sig} (h : b ≠ o') : V2 m d b = V1 m d b := Function.update_of_ne h _ _
theorem V3_a0 (d : Dev nD) : V3 m d a0' = m ((SparseCore.T d).loc main_arg0) := by
  unfold V3; after_results_simp; exact (V2_ne m d (by decide)).trans (V1_a0 m d)
theorem V3_a1 (d : Dev nD) : V3 m d a1' = m ((SparseCore.T d).loc main_arg1) := by
  unfold V3; after_results_simp; exact (V2_ne m d (by decide)).trans (V1_a1 m d)
theorem V3_a2 (d : Dev nD) : V3 m d a2' = m ((SparseCore.T d).loc main_arg2) := by
  unfold V3; after_results_simp; exact (V2_ne m d (by decide)).trans (V1_a2 m d)
theorem V3_r (d : Dev nD) : V3 m d r' = outv m d := by
  unfold V3; after_results_simp; unfold outv; rw [← V2_o]; rfl

/-! ## @main -/

theorem host_held (d : Dev nD) : (unscopedBufs d (fun b => m ((SparseCore.T d).loc b)) : sProp 𝕄) = held (SparseCore.T d) hostRefs (V0 m d) := by
  unfold unscopedBufs held hostRefs
  rw [BI.bigSep_map]; rfl

theorem call_held (d : Dev nD) (V : Valuation τ sig (Elt F)) :
    (held (SparseCore.T d) callRefs V : sProp 𝕄) = iprop((xLoc d ↦{fullShare} V x') ∗ (oLoc d ↦{fullShare} V o') ∗ wLoc d ↦{fullShare} V w') := by
  unfold held callRefs
  rw [SparseCore.bigSep_insert' (by decide), SparseCore.bigSep_insert' (by decide), bigSep_singleton]

/-- What the end leaves to read. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (SparseCore.T d).loc main_v5 ↦{fullShare} outv m d)

theorem end_held (d : Dev nD) : (held (SparseCore.T d) endRefs (V3 m d) : sProp 𝕄) = FIN m d := by
  unfold held endRefs
  rw [SparseCore.bigSep_insert' (by decide), SparseCore.bigSep_insert' (by decide), SparseCore.bigSep_insert' (by decide), bigSep_singleton,
    V3_a0, V3_a1, V3_a2, V3_r]

/-- What travels, at this launch. -/
abbrev PP : (K (F := F)).Pay (nD := nD) (Val := Elt F) (Name := ℕ) (U := UU) := P (rows m) (outBefore m) (table m)

theorem st_all (d : Dev nD) :
    (bigSep Finset.univ fun c : Fin ((K (F := F)).nCore 0) => (PP m).st 0 d c)
      = iprop((xLoc d ↦{fullShare} rows m d) ∗ (oLoc d ↦{fullShare} outBefore m d) ∗ wLoc d ↦{fullShare} table m d) := by
  rw [whole_pieces]
  refine bigSep_congr (s := (Finset.univ : Finset (Fin 2))) fun c _ => ?_
  show part16 d c (rows m d) (outBefore m d) (table m d) = _
  unfold part16; rfl
theorem dn_all (d : Dev nD) :
    (bigSep Finset.univ fun c : Fin ((K (F := F)).nCore 0) => (PP m).dn 0 d c)
      = iprop((xLoc d ↦{fullShare} rows m d) ∗ (oLoc d ↦{fullShare} sumAll (rows m d) (table m d)) ∗ wLoc d ↦{fullShare} table m d) := by
  rw [whole_pieces]
  refine bigSep_congr (s := (Finset.univ : Finset (Fin 2))) fun c _ => ?_
  show part16 d c (rows m d) (sumAll (rows m d) (table m d)) (table m d) = _
  unfold part16; rfl

theorem held_before (d : Dev nD) : (held (d.tc : Thread nD τ) hostRefs (after pre4 (V0 m d)) : sProp 𝕄)
    = iprop(((xLoc d ↦{fullShare} rows m d) ∗ (oLoc d ↦{fullShare} outBefore m d) ∗ wLoc d ↦{fullShare} table m d) ∗ held (SparseCore.T d) (hostRefs \ callRefs) (V2 m d)) := by
  show held (SparseCore.T d) hostRefs (V1 m d) = _
  rw [held_sub_split (SparseCore.T d) callRefs_sub, call_held, V1_x, V1_w]
  refine congrArg (fun B => iprop(((xLoc d ↦{fullShare} rows m d) ∗ (oLoc d ↦{fullShare} outBefore m d) ∗ wLoc d ↦{fullShare} table m d) ∗ B)) ?_
  refine held_congr (SparseCore.T d) fun b hb => (V2_ne m d fun e => ?_).symm
  subst e
  exact (Finset.mem_sdiff.mp hb).2 (by decide)
theorem held_after (d : Dev nD) : (held (SparseCore.T d) hostRefs (V2 m d) : sProp 𝕄)
    = iprop(((xLoc d ↦{fullShare} rows m d) ∗ (oLoc d ↦{fullShare} sumAll (rows m d) (table m d)) ∗ wLoc d ↦{fullShare} table m d)
        ∗ held (SparseCore.T d) (hostRefs \ callRefs) (V2 m d)) := by
  rw [held_sub_split (SparseCore.T d) callRefs_sub, call_held, V2_o, V2_ne m d (show x' ≠ o' by decide), V2_ne m d (show w' ≠ o' by decide), V1_x, V1_w]

theorem held_end (d : Dev nD) : (held (d.tc : Thread nD τ) hostRefs (after post1 (V2 m d)) : sProp 𝕄)
    = iprop(FIN m d ∗ held (SparseCore.T d) (hostRefs \ endRefs) (V3 m d)) := by
  show held (SparseCore.T d) hostRefs (V3 m d) = _
  rw [held_sub_split (SparseCore.T d) endRefs_sub, end_held]

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [host_held, main_eq]
  iintro ⟨#Hctx, Hst, ⟨Hb, Hheld, Hts, -⟩, -⟩
  iapply (wp_seq 𝒱 none Set.univ d hostRefs _ pre4 pre4_sub pre4_fresh (V0 m d)) $$ [Hb Hheld]
  · isplitl [Hb]; · iexact Hb
    iexact Hheld
  iintro ⟨Hb, Hheld⟩
  rw [wp_bind]
  ihave Hh := (Entails.of_eq (held_before m d)) $$ Hheld
  icases Hh with ⟨Hcall, Hrest⟩
  iapply ((K (F := F)).wp_run (D (F := F)) 𝒱 (EH := EH) (P := PP m) κ d 0) $$ [Hst Hcall Hb Hrest Hts]
  isplitr; · iexact Hctx
  isplitl [Hst]; · iexact Hst
  isplitl [Hcall]
  · rw [st_all]; iexact Hcall
  iintro ⟨Hst, Hdn⟩
  ihave Hcall := (Entails.of_eq (dn_all m d)) $$ Hdn
  ihave Hheld := (Entails.of_eq (held_after m d).symm) $$ [Hcall Hrest]
  · isplitl [Hcall]; · iexact Hcall
    iexact Hrest
  iapply (wp_seq 𝒱 none Set.univ d hostRefs _ post1 post1_sub post1_fresh (V2 m d)) $$ [Hb Hheld]
  · isplitl [Hb]; · iexact Hb
    iexact Hheld
  iintro ⟨Hb, Hheld⟩
  ihave Hh := (Entails.of_eq (held_end m d)) $$ Hheld
  icases Hh with ⟨Hfin, -⟩
  rw [wp_pure]; imodintro
  isplitl [Hst]; · iexact Hst
  isplitl [Hfin]; · iexact Hfin
  isplitl [Hb]; · iexact Hb
  iexact Hts

/-! ## The launch and the end -/

omit [FloatOps F] in
theorem all_emp {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PP m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [all_emp]; iempintro
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), all_emp]
  iempintro

/-- What the claims read at the end. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_v5) = outv m d

theorem agree {ℓ : Loc nD τ sig} {f : Buf (Elt F) ℓ} {s' : Phys nD τ sig (Elt F)} :
    iprop(SI s' ∗ ℓ ↦{fullShare} f) ⊢ (iprop(⌜s'.mem.mem ℓ = f⌝ ∗ SI s') : sProp 𝕄) := by
  iintro ⟨HSI, Hx⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H5⟩, HSI⟩
  ihave H := agree $$ [HSI H0]
  · isplitl [HSI] <;> iassumption
  icases H with ⟨%h0, HSI⟩
  ihave H := agree $$ [HSI H1]
  · isplitl [HSI] <;> iassumption
  icases H with ⟨%h1, HSI⟩
  ihave H := agree $$ [HSI H2]
  · isplitl [HSI] <;> iassumption
  icases H with ⟨%h2, HSI⟩
  ihave H := agree $$ [HSI H5]
  · isplitl [HSI] <;> iassumption
  icases H with ⟨%h5, HSI⟩
  ipureintro; exact ⟨h0, h1, h2, h5⟩

/-- The run's end, on every device. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_v5) = outv m d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (rows m) (outBefore m) (table m) facts)
    (fun q _ => match q with | 0 => SparseCore.Cfg.VecSplit.of_plain (vecSplit (rows m) (outBefore m) (table m)))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Reference.lean ====
/-
  The reference, element by element: the row numbers and column numbers it looks its tables up at are all within the
  tables, so each lookup is the table's own row, and the result is `x` plus the row table's entry for the first 96
  channels, the column table's for the others.
-/
module

public import proofs.«01_k».proof.Proof.Gen.ReferenceIdeal.Run
public import Idealize.ShloMosaic.Lib.Pointwise
public import Idealize.ShloMosaic.Lib.ReduceAll

@[expose] public section

noncomputable section

namespace Cert.Proof.Ref

open Idealize.ShloMosaic Cert.ReferenceIdeal Cert.ReferenceIdeal.Facts₀
open Cert.ReferenceIdeal.Gen (facts₀)

variable {F : FTy → Type} [FloatOps F]

/-! ## A lookup of table rows at an array of row numbers -/

/-- The row numbers, those below zero counted from the end. -/
def wrapped (I : IVec S224x224 32) : IVec S224x224 32 :=
  select (cmpi .slt I (broadcastInDim S224x224 ![] bcast_S_S224x224 (constantI S_ 32 0#32))) (addi I (broadcastInDim S224x224 ![] bcast_S_S224x224 (constantI S_ 32 224#32))) I

/-- The row numbers with an axis for the one component of each. -/
def boxed (I : IVec S224x224 32) : IVec S224x224x1 32 := broadcastInDim S224x224x1 ![0, 1] bcast_S224x224_S224x224x1_0_1 (wrapped I)

/-- Whether each number is a row of the table. -/
def inside (I : IVec S224x224 32) : IVec S224x224x1 1 :=
  andi (cmpi .sge (boxed I) (broadcastInDim S224x224x1 ![] bcast_S_S224x224x1 (constantI S_ 32 0#32)))
    (cmpi .sle (boxed I) (broadcastInDim S224x224x1 ![0, 1, 2] bcast_S1x1x1_S224x224x1_0_1_2 (broadcastInDim S1x1x1 ![2] bcast_S1_S1x1x1_2 (constantI S1 32 223#32))))

/-- The rows looked up, filled with a constant where the number is no row. -/
def taken (x : S224x96.Idx → Elt F .f32) (I : IVec S224x224 32) : S224x224x96.Idx → Elt F .f32 :=
  select (broadcastInDim S224x224x96 ![0, 1] bcast_S224x224_S224x224x96_0_1 (Host.reduce IntOp.andi (inside I) (constantI S_ 1 1#1) reducesTo_S224x224x1_S224x224_d2 h_S_))
    (Host.gather gather_S224x96_S224x224x1_S224x224x96_2_0_n_n_0_2_196 x (boxed I))
    (broadcastInDim S224x224x96 ![] bcast_S_S224x224x96 (constant S_ .f32 0x7FC00000#32))

variable (I : IVec S224x224 32)

/-- The words of the numbers below 224: none is below zero, each is within the table and reads back as itself. -/
theorem words : ∀ n : Fin 224, Scalar.select (IntOp.cmpi .slt (BitVec.ofNat 32 n.val) 0#32) (IntOp.addi (BitVec.ofNat 32 n.val) 224#32) (BitVec.ofNat 32 n.val) = BitVec.ofNat 32 n.val
    ∧ IntOp.andi (IntOp.cmpi .sge (BitVec.ofNat 32 n.val) 0#32) (IntOp.cmpi .sle (BitVec.ofNat 32 n.val) 223#32) = 1#1
    ∧ (BitVec.ofNat 32 n.val).toInt.toNat = n.val := by decide

theorem wrapped_eq (n : S224x224.Idx → Fin 224) (hI : ∀ q, I q = BitVec.ofNat 32 (n q).val) : wrapped I = I := by
  funext q
  unfold wrapped
  pointwise
  rw [hI]
  exact (words (n q)).1

theorem inside_one (n : S224x224.Idx → Fin 224) (hI : ∀ q, I q = BitVec.ofNat 32 (n q).val) (p) : inside I p = 1#1 := by
  unfold inside boxed
  rw [wrapped_eq I n hI]
  pointwise
  rw [hI]
  exact (words _).2.1

/-- The lookup at one element, its row number read. -/
theorem gather_at (x : S224x96.Idx → Elt F .f32) (J : IVec S224x224x1 32) (j : S224x224x96.Idx) (b : Fin 224) (hb : (J (ix3 (j 0) (j 1) 0)).toInt.toNat = b.val) :
    Host.gather gather_S224x96_S224x224x1_S224x224x96_2_0_n_n_0_2_196 x J j = x (ix2 b (j 2)) := by
  unfold Host.gather
  refine congrArg x (funext fun a => Fin.ext ?_)
  match a with
  | 0 =>
    show min (J (gather_S224x96_S224x224x1_S224x224x96_2_0_n_n_0_2_196.siIdx j ⟨0, by decide⟩)).toInt.toNat (224 - 1) + 0 + 0 = b.val
    have e : gather_S224x96_S224x224x1_S224x224x96_2_0_n_n_0_2_196.siIdx j ⟨0, by decide⟩ = ix3 (j 0) (j 1) 0 := by
      funext a
      match a with
      | 0 => rfl
      | 1 => rfl
      | 2 => rfl
    have hq := (congrArg (fun q => (J q).toInt.toNat) e).trans hb
    have := b.isLt
    omega
  | 1 =>
    show 0 + 0 + (j 2).val = (j 2).val
    omega

/-- Numbers below 224 are looked up as they are. -/
theorem taken_at (x : S224x96.Idx → Elt F .f32) (n : S224x224.Idx → Fin 224) (hI : ∀ q, I q = BitVec.ofNat 32 (n q).val) (j : S224x224x96.Idx) :
    taken x I j = x (ix2 (n (ix2 (j 0) (j 1))) (j 2)) := by
  have hg := gather_at x (boxed I) j (n (ix2 (j 0) (j 1))) (by
    unfold boxed
    rw [wrapped_eq I n hI]
    pointwise
    rw [hI]
    exact (words _).2.2)
  have hm : ∀ q, Host.reduce IntOp.andi (inside I) (constantI S_ 1 1#1) reducesTo_S224x224x1_S224x224_d2 h_S_ q = 1#1 := fun q =>
    Host.reduce_andi_one _ _ _ _ q rfl (inside_one I n hI)
  unfold taken
  generalize Host.reduce IntOp.andi (inside I) (constantI S_ 1 1#1) reducesTo_S224x224x1_S224x224_d2 h_S_ = M at hm ⊢
  generalize Host.gather gather_S224x96_S224x224x1_S224x224x96_2_0_n_n_0_2_196 x (boxed I) = G at hg ⊢
  pointwise
  rw [hm, hg]
  rfl

/-! ## The reference -/

/-- Each place's row number, and its column number. -/
def rowNo : IVec S224x224 32 := broadcastInDim S224x224 ![0, 1] bcast_S224x1_S224x224_0_1 (broadcastInDim S224x1 ![0] bcast_S224_S224x1_0 (iotaInDim S224 32 0))
def colNo : IVec S224x224 32 := broadcastInDim S224x224 ![0, 1] bcast_S1x224_S224x224_0_1 (broadcastInDim S1x224 ![1] bcast_S224_S1x224_1 (iotaInDim S224 32 0))

theorem rowNo_at (q : S224x224.Idx) : rowNo q = BitVec.ofNat 32 (q 0).val := by
  unfold rowNo
  pointwise
theorem colNo_at (q : S224x224.Idx) : colNo q = BitVec.ofNat 32 (q 1).val := by
  unfold colNo
  pointwise

/-- The reference's result as a function of its three arguments. -/
def refOf (x : S8x192x224x224.Idx → Elt F .f32) (a b : S224x96.Idx → Elt F .f32) : S8x192x224x224.Idx → Elt F .f32 :=
  addf x (broadcastInDim S8x192x224x224 ![0, 1, 2, 3] bcast_S1x192x224x224_S8x192x224x224_0_1_2_3 (broadcastInDim S1x192x224x224 ![1, 2, 3] bcast_S192x224x224_S1x192x224x224_1_2_3
    (transpose S192x224x224 [2, 0, 1] (concatenate S224x224x192 2 [⟨S224x224x96, taken a rowNo⟩, ⟨S224x224x96, taken b colNo⟩] concatenates_S224x224x96_S224x224x96_S224x224x192_d2) transposes_S224x224x192_S192x224x224_2_0_1)))

theorem res_eq (m : (ℓ : Loc nD τ sig) → Buf (Elt F) ℓ) (c : Dev nD) :
    Cert.ReferenceIdeal.Value.res_main_v12 m c = refOf (m ((c.tc : Thread nD τ).loc main_arg0)) (m ((c.tc : Thread nD τ).loc main_arg1)) (m ((c.tc : Thread nD τ).loc main_arg2)) := rfl

/-- The reference's result at one element. -/
theorem refOf_at (x : S8x192x224x224.Idx → Elt F .f32) (a b : S224x96.Idx → Elt F .f32) (j : S8x192x224x224.Idx) :
    refOf x a b j = FloatOps.addf (x j) (if h : (j 1).val < 96 then a (ix2 (j 2) ⟨(j 1).val, h⟩) else b (ix2 (j 3) ⟨(j 1).val - 96, by have : (j 1).val < 192 := (j 1).isLt; omega⟩)) := by
  unfold refOf
  have ha := taken_at rowNo a (fun q => q 0) rowNo_at
  have hb := taken_at colNo b (fun q => q 1) colNo_at
  generalize taken a rowNo = A at ha ⊢
  generalize taken b colNo = B at hb ⊢
  pointwise
  refine congrArg (FloatOps.addf (x j)) ?_
  split
  · exact ha _
  · exact hb _

end Cert.Proof.Ref

end
-- ==== Proof.Value.lean ====
/-
  The kernel's result element by element, equal to the reference's, and the claims.
-/
module

public import proofs.«01_k».proof.Defs
public import proofs.«01_k».proof.Proof.Launch
public import proofs.«01_k».proof.Proof.Reference
public import proofs.«01_k».proof.Proof.Gen.Kernel

@[expose] public section

noncomputable section

namespace Cert.Proof

open Cert.KernelIdeal Cert.KernelIdeal.Gen Idealize.ShloMosaic Idealize.SL.Sem

variable {F : FTy → Type} [FloatOps F]

/-! ## The kernel's result -/

section At
variable (m : (ℓ : Loc nD τ sig) → Buf (Elt F) ℓ) (d : Dev nD)

/-- The table of channels: the first argument table's columns, then the second's. -/
theorem table_at (z : S192x224.Idx) :
    table m d z = if h : (z 0).val < 96 then m ((SparseCore.T d).loc main_arg1) (ix2 (n0 := 224) (n1 := 96) (z 1) ⟨(z 0).val, h⟩)
      else m ((SparseCore.T d).loc main_arg2) (ix2 (n0 := 224) (n1 := 96) (z 1) ⟨(z 0).val - 96, by have : (z 0).val < 192 := (z 0).isLt; omega⟩) := by
  unfold table
  pointwise

/-- The row of an element of `x`'s shape. -/
abbrev flat (j : S8x192x224x224.Idx) : S344064x224.Idx :=
  ix2 (n0 := 344064) (n1 := 224) ⟨(j 0).val * 43008 + (j 1).val * 224 + (j 2).val, by
    have h0 : (j 0).val < 8 := (j 0).isLt
    have h1 : (j 1).val < 192 := (j 1).isLt
    have h2 : (j 2).val < 224 := (j 2).isLt
    omega⟩ (j 3)

theorem cast_at (Y : XA F) (j : S8x192x224x224.Idx) :
    shapeCast S8x192x224x224 Y shapeCasts_S344064x224_S8x192x224x224 j = Y (flat j) := by
  pointwise

theorem rows_at (j : S8x192x224x224.Idx) : rows m d (flat j) = m ((SparseCore.T d).loc main_arg0) j :=
  (cast_at (rows m d) j).symm.trans (congrFun (shapeCast_shapeCast _ _ _) j)

/-- The kernel's result at one element. -/
theorem outv_at (j : S8x192x224x224.Idx) :
    outv m d j = FloatOps.addf (m ((SparseCore.T d).loc main_arg0) j)
      (if h : (j 1).val < 96 then m ((SparseCore.T d).loc main_arg1) (ix2 (n0 := 224) (n1 := 96) (j 2) ⟨(j 1).val, h⟩)
        else m ((SparseCore.T d).loc main_arg2) (ix2 (n0 := 224) (n1 := 96) (j 3) ⟨(j 1).val - 96, by have : (j 1).val < 192 := (j 1).isLt; omega⟩)) := by
  have h0 : (j 0).val < 8 := (j 0).isLt
  have h1 : (j 1).val < 192 := (j 1).isLt
  have h2 : (j 2).val < 224 := (j 2).isLt
  have h3 : (j 3).val < 224 := (j 3).isLt
  have ec : (flat j 0).val / 224 % 192 = (j 1).val := by
    show ((j 0).val * 43008 + (j 1).val * 224 + (j 2).val) / 224 % 192 = (j 1).val
    omega
  have eh : (flat j 0).val % 224 = (j 2).val := by
    show ((j 0).val * 43008 + (j 1).val * 224 + (j 2).val) % 224 = (j 2).val
    omega
  have ew : (flat j 1).val = (j 3).val := rfl
  have e2 : at192 (j 1).val (j 2).val = ix2 (n0 := 192) (n1 := 224) (j 1) (j 2) :=
    (eq_at192 (ix2 (n0 := 192) (n1 := 224) (j 1) (j 2)) _ _ rfl rfl).symm
  have e3 : at192 (j 1).val (j 3).val = ix2 (n0 := 192) (n1 := 224) (j 1) (j 3) :=
    (eq_at192 (ix2 (n0 := 192) (n1 := 224) (j 1) (j 3)) _ _ rfl rfl).symm
  unfold outv
  rw [cast_at]
  unfold sumAll
  rw [rows_at]
  refine congrArg (FloatOps.addf (m ((SparseCore.T d).loc main_arg0) j)) ?_
  unfold posAll
  rw [ec, eh, ew, e2, e3]
  by_cases h : (j 1).val < 96
  · rw [if_pos h, dif_pos h]
    exact (table_at m d _).trans (dif_pos h)
  · rw [if_neg h, dif_neg h]
    exact (table_at m d _).trans (dif_neg h)

end At

/-- On the same arguments the kernel's result is the reference's. -/
theorem outv_eq (m : (ℓ : Loc nD τ sig) → Buf (Elt F) ℓ)
    (m' : (ℓ : Loc Cert.ReferenceIdeal.nD Cert.ReferenceIdeal.τ Cert.ReferenceIdeal.sig) → Buf (Elt F) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2)) :
    Cert.ReferenceIdeal.Value.res_main_v12 m' c = outv m c := by
  rw [Ref.res_eq, h0, h1, h2]
  funext j
  exact (Ref.refOf_at _ _ _ j).trans (outv_at m c j).symm

/-! ## The claims -/

theorem frame_kernel : Cert.quiescent_Kernel := fun m ρ _ =>
  (θ_run Cert.KernelIdeal.defs _ _).mono (fun _ h => ⟨fun c => ⟨(h.1 c).1, (h.1 c).2.1, (h.1 c).2.2.1⟩, h.2⟩) (run_main (F := Bits) m ρ)

theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-- The reference has no semaphore. -/
theorem no_sem (x : SemLoc Cert.ReferenceIdeal.sig) : False := by
  match x with
  | .reg s => exact s.elim0
  | .dma s => exact s.elim0

theorem frame_reference : Cert.quiescent_ReferenceIdeal := fun m ρ _ =>
  (θ_run Cert.ReferenceIdeal.defs _ _).mono (fun _ h => ⟨fun c => (h c).2, funext fun g => (no_sem g.2).elim⟩)
    (Cert.ReferenceIdeal.Value.run (F := Ideal) m ρ)

theorem algebraic : Cert.algebraic_KernelIdeal_ReferenceIdeal := fun m ρ m' ρ' _ hm =>
  ⟨fun c => outv m c,
    (θ_run Cert.KernelIdeal.defs _ _).mono (fun _ h c => ⟨(h.1 c).2.2.2, (h.1 c).1, (h.1 c).2.1, (h.1 c).2.2.1⟩) (run_main (F := Ideal) m ρ),
    (θ_run Cert.ReferenceIdeal.defs _ _).mono (fun _ h c => ⟨(h c).1.trans (outv_eq m m' c (hm c).1 (hm c).2.1 (hm c).2.2), (h c).2⟩)
      (Cert.ReferenceIdeal.Value.run (F := Ideal) m' ρ')⟩

end Cert.Proof

end
-- ==== Proof.lean ====
/-
  The proof of `Cert.Claim` (Defs.lean): the frames of the kernel, of its ideal form and of the reference, the ideal form
  preserved, and the kernel's result equal to the reference's. Each is proved in `Proof/Value.lean`; the kernel's run,
  on which they rest, is `run_main` of `Proof/Launch.lean`.
-/
module

public import proofs.«01_k».proof.Defs
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    frame_kernel, frame_ideal, frame_reference, trivial, algebraic⟩

end Cert.Proof

end
